-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S4096x512 : Shape := ⟨2, ![4096, 512]⟩
abbrev S2x4096x512 : Shape := ⟨3, ![2, 4096, 512]⟩
abbrev S4x1024x512 : Shape := ⟨3, ![4, 1024, 512]⟩
abbrev S3x1024x512 : Shape := ⟨3, ![3, 1024, 512]⟩
abbrev S8x128 : Shape := ⟨2, ![8, 128]⟩
abbrev S4x8x128 : Shape := ⟨3, ![4, 8, 128]⟩
abbrev S2 : Shape := ⟨1, ![2]⟩
abbrev S3x2 : Shape := ⟨2, ![3, 2]⟩
abbrev S3 : Shape := ⟨1, ![3]⟩
abbrev S_ : Shape := ⟨0, ![]⟩
abbrev S1 : Shape := ⟨1, ![1]⟩
abbrev S1x4096x512 : Shape := ⟨3, ![1, 4096, 512]⟩
abbrev S512x4096 : Shape := ⟨2, ![512, 4096]⟩
abbrev S512x512 : Shape := ⟨2, ![512, 512]⟩
abbrev S1x512x512 : Shape := ⟨3, ![1, 512, 512]⟩
abbrev S1x1x1 : Shape := ⟨3, ![1, 1, 1]⟩
abbrev S1x1 : Shape := ⟨2, ![1, 1]⟩
abbrev S1x8x128 : Shape := ⟨3, ![1, 8, 128]⟩
abbrev S1x4x8x128 : Shape := ⟨4, ![1, 4, 8, 128]⟩
abbrev S1x1x1x1 : Shape := ⟨4, ![1, 1, 1, 1]⟩
abbrev S1x1024x512 : Shape := ⟨3, ![1, 1024, 512]⟩
abbrev S1024x512 : Shape := ⟨2, ![1024, 512]⟩

abbrev nBuf : Space → Nat
  | .hbm => 3
  | .vmem => 8
  | .smem => 0
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S4096x512, .bf16⟩
  | .local _ .vmem, ⟨0, _⟩ => ⟨S1024x4096, .f32⟩
  | .local _ .vmem, ⟨1, _⟩ => ⟨S4096x512, .bf16⟩
  | .local _ .vmem, ⟨2, _⟩ => ⟨S1024x4096, .bf16⟩
  | .local _ .vmem, ⟨3, _⟩ => ⟨S2x4096x512, .f32⟩
  | .local _ .vmem, ⟨4, _⟩ => ⟨S4x1024x512, .bf16⟩
  | .local _ .vmem, ⟨5, _⟩ => ⟨S3x1024x512, .bf16⟩
  | .local _ .vmem, ⟨6, _⟩ => ⟨S8x128, .f32⟩
  | .local _ .vmem, ⟨7, _⟩ => ⟨S4x8x128, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c2_i32_28 : BitVec 32) : Fin 2 → Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c2_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c512_i32 : BitVec 32 := 512#32
  let v54 : BitVec 32 := Scalar.muli v53 c512_i32
  ![0, v54.toNat]
def k0_dev4 (d0 : Dev nD) : Nat :=
  let c0_i32_85 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_71 : BitVec 32 := 2#32
  let v103 : BitVec 32 := Scalar.addi v2 c2_i32_71
  let c4_i32_72 : BitVec 32 := 4#32
  let c0_i32_73 : BitVec 32 := 0#32
  let v104 : BitVec 1 := Scalar.cmpi .eq c4_i32_72 c0_i32_73
  let c1_i32_74 : BitVec 32 := 1#32
  let v105 : BitVec 32 := Scalar.select v104 c1_i32_74 c4_i32_72
  let v106 : BitVec 32 := Scalar.remsi v103 v105
  let c0_i32_76 : BitVec 32 := 0#32
  let v108 : BitVec 1 := Scalar.cmpi .slt v106 c0_i32_76
  let c0_i32_77 : BitVec 32 := 0#32
  let v109 : BitVec 1 := Scalar.cmpi .slt v105 c0_i32_77
  let v110 : BitVec 1 := Scalar.xori v108 v109
  let c0_i32_75 : BitVec 32 := 0#32
  let v107 : BitVec 1 := Scalar.cmpi .ne v106 c0_i32_75
  let v111 : BitVec 1 := Scalar.andi v110 v107
  let v112 : BitVec 32 := Scalar.addi v106 v105
  let v113 : BitVec 32 := Scalar.select v111 v112 v106
  let c1_i32_84 : BitVec 32 := 1#32
  let v114 : BitVec 32 := Scalar.muli v113 c1_i32_84
  let v115 : BitVec 32 := Scalar.addi c0_i32_85 v114
  v115.toNat
def k0_dev5 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_96 : BitVec 32 := 2#32
  let v136 : BitVec 32 := Scalar.addi v2 c2_i32_96
  let c4_i32_97 : BitVec 32 := 4#32
  let c0_i32_98 : BitVec 32 := 0#32
  let v137 : BitVec 1 := Scalar.cmpi .eq c4_i32_97 c0_i32_98
  let c1_i32_99 : BitVec 32 := 1#32
  let v138 : BitVec 32 := Scalar.select v137 c1_i32_99 c4_i32_97
  let v139 : BitVec 32 := Scalar.remsi v136 v138
  let c0_i32_101 : BitVec 32 := 0#32
  let v141 : BitVec 1 := Scalar.cmpi .slt v139 c0_i32_101
  let c0_i32_102 : BitVec 32 := 0#32
  let v142 : BitVec 1 := Scalar.cmpi .slt v138 c0_i32_102
  let v143 : BitVec 1 := Scalar.xori v141 v142
  let c0_i32_100 : BitVec 32 := 0#32
  let v140 : BitVec 1 := Scalar.cmpi .ne v139 c0_i32_100
  let v144 : BitVec 1 := Scalar.andi v143 v140
  let v145 : BitVec 32 := Scalar.addi v139 v138
  let v146 : BitVec 32 := Scalar.select v144 v145 v139
  let c1_i32_109 : BitVec 32 := 1#32
  let v147 : BitVec 32 := Scalar.muli v146 c1_i32_109
  let v148 : BitVec 32 := Scalar.addi c0_i32_110 v147
  v148.toNat
def k0_dev6 (d0 : Dev nD) : Nat :=
  let c0_i32_156 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_142 : BitVec 32 := 1#32
  let v194 : BitVec 32 := Scalar.addi v2 c1_i32_142
  let c4_i32_143 : BitVec 32 := 4#32
  let c0_i32_144 : BitVec 32 := 0#32
  let v195 : BitVec 1 := Scalar.cmpi .eq c4_i32_143 c0_i32_144
  let c1_i32_145 : BitVec 32 := 1#32
  let v196 : BitVec 32 := Scalar.select v195 c1_i32_145 c4_i32_143
  let v197 : BitVec 32 := Scalar.remsi v194 v196
  let c0_i32_147 : BitVec 32 := 0#32
  let v199 : BitVec 1 := Scalar.cmpi .slt v197 c0_i32_147
  let c0_i32_148 : BitVec 32 := 0#32
  let v200 : BitVec 1 := Scalar.cmpi .slt v196 c0_i32_148
  let v201 : BitVec 1 := Scalar.xori v199 v200
  let c0_i32_146 : BitVec 32 := 0#32
  let v198 : BitVec 1 := Scalar.cmpi .ne v197 c0_i32_146
  let v202 : BitVec 1 := Scalar.andi v201 v198
  let v203 : BitVec 32 := Scalar.addi v197 v196
  let v204 : BitVec 32 := Scalar.select v202 v203 v197
  let c1_i32_155 : BitVec 32 := 1#32
  let v205 : BitVec 32 := Scalar.muli v204 c1_i32_155
  let v206 : BitVec 32 := Scalar.addi c0_i32_156 v205
  v206.toNat
def k0_dev7 (d0 : Dev nD) : Nat :=
  let c0_i32_182 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_168 : BitVec 32 := 1#32
  let v227 : BitVec 32 := Scalar.addi v2 c1_i32_168
  let c4_i32_169 : BitVec 32 := 4#32
  let c0_i32_170 : BitVec 32 := 0#32
  let v228 : BitVec 1 := Scalar.cmpi .eq c4_i32_169 c0_i32_170
  let c1_i32_171 : BitVec 32 := 1#32
  let v229 : BitVec 32 := Scalar.select v228 c1_i32_171 c4_i32_169
  let v230 : BitVec 32 := Scalar.remsi v227 v229
  let c0_i32_173 : BitVec 32 := 0#32
  let v232 : BitVec 1 := Scalar.cmpi .slt v230 c0_i32_173
  let c0_i32_174 : BitVec 32 := 0#32
  let v233 : BitVec 1 := Scalar.cmpi .slt v229 c0_i32_174
  let v234 : BitVec 1 := Scalar.xori v232 v233
  let c0_i32_172 : BitVec 32 := 0#32
  let v231 : BitVec 1 := Scalar.cmpi .ne v230 c0_i32_172
  let v235 : BitVec 1 := Scalar.andi v234 v231
  let v236 : BitVec 32 := Scalar.addi v230 v229
  let v237 : BitVec 32 := Scalar.select v235 v236 v230
  let c1_i32_181 : BitVec 32 := 1#32
  let v238 : BitVec 32 := Scalar.muli v237 c1_i32_181
  let v239 : BitVec 32 := Scalar.addi c0_i32_182 v238
  v239.toNat
def k0_dev8 (d0 : Dev nD) : Nat :=
  let c0_i32_228 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_214 : BitVec 32 := 3#32
  let v285 : BitVec 32 := Scalar.addi v2 c3_i32_214
  let c4_i32_215 : BitVec 32 := 4#32
  let c0_i32_216 : BitVec 32 := 0#32
  let v286 : BitVec 1 := Scalar.cmpi .eq c4_i32_215 c0_i32_216
  let c1_i32_217 : BitVec 32 := 1#32
  let v287 : BitVec 32 := Scalar.select v286 c1_i32_217 c4_i32_215
  let v288 : BitVec 32 := Scalar.remsi v285 v287
  let c0_i32_219 : BitVec 32 := 0#32
  let v290 : BitVec 1 := Scalar.cmpi .slt v288 c0_i32_219
  let c0_i32_220 : BitVec 32 := 0#32
  let v291 : BitVec 1 := Scalar.cmpi .slt v287 c0_i32_220
  let v292 : BitVec 1 := Scalar.xori v290 v291
  let c0_i32_218 : BitVec 32 := 0#32
  let v289 : BitVec 1 := Scalar.cmpi .ne v288 c0_i32_218
  let v293 : BitVec 1 := Scalar.andi v292 v289
  let v294 : BitVec 32 := Scalar.addi v288 v287
  let v295 : BitVec 32 := Scalar.select v293 v294 v288
  let c1_i32_227 : BitVec 32 := 1#32
  let v296 : BitVec 32 := Scalar.muli v295 c1_i32_227
  let v297 : BitVec 32 := Scalar.addi c0_i32_228 v296
  v297.toNat
def k0_dev9 (d0 : Dev nD) : Nat :=
  let c0_i32_254 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_240 : BitVec 32 := 3#32
  let v318 : BitVec 32 := Scalar.addi v2 c3_i32_240
  let c4_i32_241 : BitVec 32 := 4#32
  let c0_i32_242 : BitVec 32 := 0#32
  let v319 : BitVec 1 := Scalar.cmpi .eq c4_i32_241 c0_i32_242
  let c1_i32_243 : BitVec 32 := 1#32
  let v320 : BitVec 32 := Scalar.select v319 c1_i32_243 c4_i32_241
  let v321 : BitVec 32 := Scalar.remsi v318 v320
  let c0_i32_245 : BitVec 32 := 0#32
  let v323 : BitVec 1 := Scalar.cmpi .slt v321 c0_i32_245
  let c0_i32_246 : BitVec 32 := 0#32
  let v324 : BitVec 1 := Scalar.cmpi .slt v320 c0_i32_246
  let v325 : BitVec 1 := Scalar.xori v323 v324
  let c0_i32_244 : BitVec 32 := 0#32
  let v322 : BitVec 1 := Scalar.cmpi .ne v321 c0_i32_244
  let v326 : BitVec 1 := Scalar.andi v325 v322
  let v327 : BitVec 32 := Scalar.addi v321 v320
  let v328 : BitVec 32 := Scalar.select v326 v327 v321
  let c1_i32_253 : BitVec 32 := 1#32
  let v329 : BitVec 32 := Scalar.muli v328 c1_i32_253
  let v330 : BitVec 32 := Scalar.addi c0_i32_254 v329
  v330.toNat
def k0_dev10 (d0 : Dev nD) : Nat :=
  let c0_i32_298 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_287 : BitVec 32 := 1#32
  let v379 : BitVec 32 := Scalar.addi v2 c1_i32_287
  let c4_i32_288 : BitVec 32 := 4#32
  let c0_i32_289 : BitVec 32 := 0#32
  let v380 : BitVec 1 := Scalar.cmpi .eq c4_i32_288 c0_i32_289
  let c1_i32_290 : BitVec 32 := 1#32
  let v381 : BitVec 32 := Scalar.select v380 c1_i32_290 c4_i32_288
  let v382 : BitVec 32 := Scalar.remsi v379 v381
  let c0_i32_292 : BitVec 32 := 0#32
  let v384 : BitVec 1 := Scalar.cmpi .slt v382 c0_i32_292
  let c0_i32_293 : BitVec 32 := 0#32
  let v385 : BitVec 1 := Scalar.cmpi .slt v381 c0_i32_293
  let v386 : BitVec 1 := Scalar.xori v384 v385
  let c0_i32_291 : BitVec 32 := 0#32
  let v383 : BitVec 1 := Scalar.cmpi .ne v382 c0_i32_291
  let v387 : BitVec 1 := Scalar.andi v386 v383
  let v388 : BitVec 32 := Scalar.addi v382 v381
  let v389 : BitVec 32 := Scalar.select v387 v388 v382
  let c1_i32_297 : BitVec 32 := 1#32
  let v390 : BitVec 32 := Scalar.muli v389 c1_i32_297
  let v391 : BitVec 32 := Scalar.addi c0_i32_298 v390
  v391.toNat
def k0_dev11 (d0 : Dev nD) : Nat :=
  let c0_i32_312 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_301 : BitVec 32 := 2#32
  let v398 : BitVec 32 := Scalar.addi v2 c2_i32_301
  let c4_i32_302 : BitVec 32 := 4#32
  let c0_i32_303 : BitVec 32 := 0#32
  let v399 : BitVec 1 := Scalar.cmpi .eq c4_i32_302 c0_i32_303
  let c1_i32_304 : BitVec 32 := 1#32
  let v400 : BitVec 32 := Scalar.select v399 c1_i32_304 c4_i32_302
  let v401 : BitVec 32 := Scalar.remsi v398 v400
  let c0_i32_306 : BitVec 32 := 0#32
  let v403 : BitVec 1 := Scalar.cmpi .slt v401 c0_i32_306
  let c0_i32_307 : BitVec 32 := 0#32
  let v404 : BitVec 1 := Scalar.cmpi .slt v400 c0_i32_307
  let v405 : BitVec 1 := Scalar.xori v403 v404
  let c0_i32_305 : BitVec 32 := 0#32
  let v402 : BitVec 1 := Scalar.cmpi .ne v401 c0_i32_305
  let v406 : BitVec 1 := Scalar.andi v405 v402
  let v407 : BitVec 32 := Scalar.addi v401 v400
  let v408 : BitVec 32 := Scalar.select v406 v407 v401
  let c1_i32_311 : BitVec 32 := 1#32
  let v409 : BitVec 32 := Scalar.muli v408 c1_i32_311
  let v410 : BitVec 32 := Scalar.addi c0_i32_312 v409
  v410.toNat
def k0_dev12 (d0 : Dev nD) : Nat :=
  let c0_i32_326 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_315 : BitVec 32 := 3#32
  let v417 : BitVec 32 := Scalar.addi v2 c3_i32_315
  let c4_i32_316 : BitVec 32 := 4#32
  let c0_i32_317 : BitVec 32 := 0#32
  let v418 : BitVec 1 := Scalar.cmpi .eq c4_i32_316 c0_i32_317
  let c1_i32_318 : BitVec 32 := 1#32
  let v419 : BitVec 32 := Scalar.select v418 c1_i32_318 c4_i32_316
  let v420 : BitVec 32 := Scalar.remsi v417 v419
  let c0_i32_320 : BitVec 32 := 0#32
  let v422 : BitVec 1 := Scalar.cmpi .slt v420 c0_i32_320
  let c0_i32_321 : BitVec 32 := 0#32
  let v423 : BitVec 1 := Scalar.cmpi .slt v419 c0_i32_321
  let v424 : BitVec 1 := Scalar.xori v422 v423
  let c0_i32_319 : BitVec 32 := 0#32
  let v421 : BitVec 1 := Scalar.cmpi .ne v420 c0_i32_319
  let v425 : BitVec 1 := Scalar.andi v424 v421
  let v426 : BitVec 32 := Scalar.addi v420 v419
  let v427 : BitVec 32 := Scalar.select v425 v426 v420
  let c1_i32_325 : BitVec 32 := 1#32
  let v428 : BitVec 32 := Scalar.muli v427 c1_i32_325
  let v429 : BitVec 32 := Scalar.addi c0_i32_326 v428
  v429.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v474 : BitVec 32 := Scalar.muli v2 c1024_i32
  let v475 : Index := Scalar.indexCast v474
  let c0_361 : Index := 0#32
  ![v475.toNat, 0]
def k0_off3 (d0 : Dev nD) (c2_i32_362 : BitVec 32) (c0_i32_387 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v477 : BitVec 32 := Scalar.subi v2 c2_i32_362
  let c4_i32_363 : BitVec 32 := 4#32
  let c0_i32_364 : BitVec 32 := 0#32
  let v478 : BitVec 1 := Scalar.cmpi .eq c4_i32_363 c0_i32_364
  let c1_i32_365 : BitVec 32 := 1#32
  let v479 : BitVec 32 := Scalar.select v478 c1_i32_365 c4_i32_363
  let v480 : BitVec 32 := Scalar.remsi v477 v479
  let c0_i32_367 : BitVec 32 := 0#32
  let v482 : BitVec 1 := Scalar.cmpi .slt v480 c0_i32_367
  let c0_i32_368 : BitVec 32 := 0#32
  let v483 : BitVec 1 := Scalar.cmpi .slt v479 c0_i32_368
  let v484 : BitVec 1 := Scalar.xori v482 v483
  let c0_i32_366 : BitVec 32 := 0#32
  let v481 : BitVec 1 := Scalar.cmpi .ne v480 c0_i32_366
  let v485 : BitVec 1 := Scalar.andi v484 v481
  let v486 : BitVec 32 := Scalar.addi v480 v479
  let v487 : BitVec 32 := Scalar.select v485 v486 v480
  let c1024_i32_386 : BitVec 32 := 1024#32
  let v509 : BitVec 32 := Scalar.muli v487 c1024_i32_386
  let v510 : BitVec 32 := Scalar.addi v509 c0_i32_387
  let v511 : Index := Scalar.indexCast v510
  let c0_388 : Index := 0#32
  ![v511.toNat, 0]
abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== Proof.Own.lean ====
/-
# Owning a slice of a buffer, and the steps of a program stated over it

A core that owns the elements a memref places, at known contents, may load them, store over them, re-index them, and hand
them to a copy. Each lemma here states one such step for the assertion `owns c m q X` — core `c` owns the elements of the
memref `m` at share `q` and reads `X` through it —, so that a proof about a kernel speaks of contents and never of buffers.
-/
module

public import Idealize.ShloMosaic.Lib.Pipeline.Launch
public import Idealize.ShloMosaic.Lib.Pipeline.Kit
public import Idealize.ShloMosaic.Lib.Memref
public import Idealize.ShloMosaic.Lib.Rounds

@[expose] public section

noncomputable section

namespace Cert.Own

open Idealize.ShloMosaic
open Idealize.SL Idealize.SL.RA
open scoped Idealize.SL.BI
open Idealize.SL.BI (sProp bigSep)
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} [Preorder Lvl] {Λ : Labels}
local notation "𝕄" => MT nD τ sig Ix Val Name U Lvl

variable {defs : Defs nD τ sig Val Λ} (𝒱 : Variants) (c : Thread nD τ) (bd : Option 𝒱.V) {Γ : PendingWaitsCtx sig Ix} (E : Set Name)
variable {α : Type} {Φ : α → sProp (MT nD τ sig Ix Val Name U Lvl)} {s s' : Shape} {e : EltTy}

/-- Opening the definition: some contents of the whole buffer, read as `X`. -/
theorem owns_open {sp : Space} (m : Memref sig c.2.kind sp s e) (q : PosShare TreeShare) (X : s.Idx → Val e) :
    (owns c m q X : sProp 𝕄) ⊢ iprop(∃ f, ⌜m.view.read Val f = X⌝ ∗ (m.view.loc c ↦[m.view.set]{q} f)) := by
  unfold owns; exact BI.Entails.refl _

/-- Closing it again at an equal reading. -/
theorem owns_close {sp : Space} (m : Memref sig c.2.kind sp s e) (q : PosShare TreeShare) {X : s.Idx → Val e}
    {f : m.view.ty.Contents Val} (h : m.view.read Val f = X) :
    (m.view.loc c ↦[m.view.set]{q} f : sProp 𝕄) ⊢ owns c m q X := by
  subst h; exact owns_intro c m q f

/-- A load of a rectangle of a memref that is owned reads the contents on the rectangle. -/
theorem wp_load_owns {cs : CoreSpace} {m : Memref sig c.2.kind cs s e} {r : Rect s} {hl : m.view.LoadsAt r}
    {k : (r.shape.Idx → Val e) → Prog (TpuEff nD τ sig Val Λ c.2) α} {q : PosShare TreeShare} {X : s.Idx → Val e} :
    (owns c m q X : sProp 𝕄)
      ⊢ iprop((owns c m q X -∗ wp frame (wpE' defs 𝒱 c bd Γ) E (k fun j => X (r.emb j)) Φ)
        -∗ wp frame (wpE' defs 𝒱 c bd Γ) E (.op (.load m r hl) k) Φ) := by
  iintro H Hk
  ihave H' := (owns_open c m q X) $$ H
  icases H' with ⟨%f, %hf, H⟩
  subst hf
  iapply (wp_load_rect 𝒱 c bd E (m.view.set_slice_subset r)) $$ H
  iintro H
  iapply Hk
  iapply (owns_intro c m q f); iexact H

/-- A load through a memref of a rectangle whose slice is owned reads the slice's contents. -/
theorem wp_load_slice {cs : CoreSpace} {m : Memref sig c.2.kind cs s e} {r : Rect s} {hr : ∀ a, r.stride a = 1} {hl : m.view.LoadsAt r}
    {k : (r.shape.Idx → Val e) → Prog (TpuEff nD τ sig Val Λ c.2) α} {q : PosShare TreeShare} {X : r.shape.Idx → Val e} :
    (owns c (m.slice r hr) q X : sProp 𝕄)
      ⊢ iprop((owns c (m.slice r hr) q X -∗ wp frame (wpE' defs 𝒱 c bd Γ) E (k X) Φ)
        -∗ wp frame (wpE' defs 𝒱 c bd Γ) E (.op (.load m r hl) k) Φ) := by
  iintro H Hk
  ihave H' := (owns_open c (m.slice r hr) q X) $$ H
  icases H' with ⟨%f, %hf, H⟩
  subst hf
  iapply (wp_load_rect 𝒱 c bd E (S := (m.slice r hr).view.set) (f := f) (subset_of_eq rfl)) $$ H
  iintro H
  iapply Hk
  iapply (owns_intro c (m.slice r hr) q f); iexact H

/-- A store through a memref over a rectangle whose slice is owned leaves the slice at what was stored. -/
theorem wp_store_slice {cs : CoreSpace} {m : Memref sig c.2.kind cs s e} {r : Rect s} {hr : ∀ a, r.stride a = 1}
    {w : r.shape.Idx → Val e} {hx : (m.access r).Stores Finset.univ}
    {hm : (Finset.univ : Finset r.shape.Idx) = Finset.univ ∨ ∀ a, r.stride a = 1}
    {k : PUnit → Prog (TpuEff nD τ sig Val Λ c.2) α} {X : r.shape.Idx → Val e} :
    (owns c (m.slice r hr) fullShare X : sProp 𝕄)
      ⊢ iprop((owns c (m.slice r hr) fullShare w -∗ wp frame (wpE' defs 𝒱 c bd Γ) E (k ⟨⟩) Φ)
        -∗ wp frame (wpE' defs 𝒱 c bd Γ) E (.op (.store m r w Finset.univ hx hm) k) Φ) := by
  iintro H Hk
  ihave H' := (owns_open c (m.slice r hr) fullShare X) $$ H
  icases H' with ⟨%f, %hf, H⟩
  iapply (wp_store 𝒱 c bd E (S := (m.slice r hr).view.set) (f := f) (subset_of_eq rfl)) $$ H
  iintro H
  iapply Hk
  iapply (owns_close c (m.slice r hr) fullShare (View.read_write_univ f w)); iexact H

/-- A store through an owned memref over one of its rectangles leaves the memref at its contents with the rectangle replaced. -/
theorem wp_store_over {cs : CoreSpace} {m : Memref sig c.2.kind cs s e} {r : Rect s}
    {w : r.shape.Idx → Val e} {hx : (m.access r).Stores Finset.univ}
    {hm : (Finset.univ : Finset r.shape.Idx) = Finset.univ ∨ ∀ a, r.stride a = 1}
    {k : PUnit → Prog (TpuEff nD τ sig Val Λ c.2) α} {X : s.Idx → Val e} :
    (owns c m fullShare X : sProp 𝕄)
      ⊢ iprop((owns c m fullShare (r.overlay X w) -∗ wp frame (wpE' defs 𝒱 c bd Γ) E (k ⟨⟩) Φ)
        -∗ wp frame (wpE' defs 𝒱 c bd Γ) E (.op (.store m r w Finset.univ hx hm) k) Φ) := by
  iintro H Hk
  ihave H' := (owns_open c m fullShare X) $$ H
  icases H' with ⟨%f, %hf, H⟩
  subst hf
  iapply (wp_store 𝒱 c bd E (m := m) (r := r) (Mk := Finset.univ) (S := m.view.set) (f := f) (m.view.set_slice_subset r)) $$ H
  iintro H
  iapply Hk
  have hread : m.view.read Val ((m.access r).write Val f w Finset.univ) = r.overlay (m.view.read Val f) w := by
    funext j
    by_cases hj : j ∈ r.set
    · obtain ⟨i, rfl⟩ := r.exists_idx_of_mem hj
      refine Eq.trans ?_ (Rect.overlay_emb r _ w i).symm
      exact View.read_write_of_mem (v := m.access r) f w (Finset.mem_univ i)
    · rw [Rect.overlay_of_not_mem _ _ _ hj, View.read_apply, View.read_apply, View.write_of_not_mem]
      intro hm'
      have hm'' : m.view.emb j ∈ (m.view.slice r).set := hm'
      rw [View.set_slice] at hm''
      exact hj ((Finset.mem_map' _).mp hm'')
  iapply (owns_close c m fullShare hread); iexact H

/-- Re-indexing a memref by a shape of as many elements re-indexes the contents. -/
theorem owns_squeeze {sp : Space} (m : Memref sig c.2.kind sp s e) (h : s.Squeezes s') (q : PosShare TreeShare) (X : s.Idx → Val e) :
    (owns c (m.squeeze s' h) q (fun i => X (Shape.reshapeEquiv h.numel_eq i)) : sProp 𝕄) = owns c m q X := by
  have h1 : (owns c (m.squeeze s' h) q (fun i => X (Shape.reshapeEquiv h.numel_eq i)) : sProp 𝕄) ⊢ owns c m q X := by
    iintro H
    ihave H' := (owns_open c (m.squeeze s' h) q _) $$ H
    icases H' with ⟨%f, %hf, H⟩
    have hf' : m.view.read Val f = X := by
      funext j
      have := congrFun hf ((Shape.reshapeEquiv h.numel_eq).symm j)
      simp only [Equiv.apply_symm_apply] at this
      rw [← this]
      show _ = m.view.read Val f (Shape.reshapeEquiv h.numel_eq _)
      rw [Equiv.apply_symm_apply]
    iapply (owns_close c m q hf')
    have hs : (m.squeeze s' h).view.set = m.view.set := View.set_reshape _ _
    rw [hs]; iexact H
  have h2 : (owns c m q X : sProp 𝕄) ⊢ owns c (m.squeeze s' h) q (fun i => X (Shape.reshapeEquiv h.numel_eq i)) := by
    iintro H
    ihave H' := (owns_open c m q X) $$ H
    icases H' with ⟨%f, %hf, H⟩
    subst hf
    iapply (owns_close c (m.squeeze s' h) q (f := f) rfl)
    have hs : (m.squeeze s' h).view.set = m.view.set := View.set_reshape _ _
    rw [hs]; iexact H
  exact BI.equiv_iff.mp ⟨h1, h2⟩

/-- What a copy leaves at its destination: the source's contents. -/
theorem owns_landed {c' : Thread nD τ} {sp sp' : Space} (src : Memref sig c.2.kind sp s e) (dst : Memref sig c'.2.kind sp' s e)
    {X : s.Idx → Val e} {fs : src.view.ty.Contents Val} {fd : dst.view.ty.Contents Val} (hX : src.view.read Val fs = X) :
    (dst.view.loc c' ↦[dst.view.set]{fullShare} (dst.view.write Val fd (src.view.read Val fs) Finset.univ) : sProp 𝕄)
      ⊢ owns c' dst fullShare X := by
  subst hX; exact owns_close c' dst fullShare (View.read_write_univ fd _)

/-- The pieces of a disjoint covering family of rectangles, each owned at some contents, are the whole owned at some
    contents. -/
theorem owns_glue [∀ e, Nonempty (Val e)] {T : Type} [Fintype T] [DecidableEq T] {sp : Space} (m : Memref sig c.2.kind sp s e)
    (q : PosShare TreeShare) (r : T → Rect s) (hr : ∀ t a, (r t).stride a = 1) (hd : ∀ t t', t ≠ t' → Disjoint (r t).set (r t').set)
    (hcov : (Finset.univ : Finset T).biUnion (fun t => (r t).set) = Finset.univ) :
    bigSep Finset.univ (fun t => iprop(∃ G, owns c (m.slice (r t) (hr t)) q G)) ⊢ (iprop(∃ X, owns c m q X) : sProp 𝕄) := by
  classical
  iintro H
  ihave H' := (BI.bigSep_exists_pi Finset.univ (fun t G => (owns c (m.slice (r t) (hr t)) q G : sProp 𝕄))) $$ H
  icases H' with ⟨%G, H⟩
  let X : s.Idx → Val e := fun j => if h : ∃ t i, (r t).emb i = j then G h.choose h.choose_spec.choose else Classical.arbitrary _
  have key : ∀ t i t' i', (r t').emb i' = (r t).emb i → G t' i' = G t i := by
    intro t i t' i' h
    by_cases ht : t' = t
    · subst ht; rw [(r t').emb.injective h]
    · have h1 : (r t').emb i' ∈ (r t').set := (r t').map_emb_univ ▸ Finset.mem_map_of_mem _ (Finset.mem_univ _)
      have h2 : (r t').emb i' ∈ (r t).set := h ▸ (r t).map_emb_univ ▸ Finset.mem_map_of_mem _ (Finset.mem_univ i)
      exact absurd h2 (Finset.disjoint_left.mp (hd t' t ht) h1)
  have hX : ∀ t, G t = fun i => X ((r t).emb i) := by
    intro t; funext i
    have h : ∃ t' i', (r t').emb i' = (r t).emb i := ⟨t, i, rfl⟩
    show _ = dite _ _ _
    rw [dif_pos h]
    exact (key t i _ _ h.choose_spec.choose_spec).symm
  iexists X
  iapply (owns_of_rects c m q r hr hd hcov X)
  have e1 : bigSep Finset.univ (fun t => (owns c (m.slice (r t) (hr t)) q (G t) : sProp 𝕄))
      = bigSep Finset.univ (fun t => owns c (m.slice (r t) (hr t)) q (fun i => X ((r t).emb i))) :=
    BI.bigSep_congr (fun t _ => congrArg (fun Z => (owns c (m.slice (r t) (hr t)) q Z : sProp 𝕄)) (hX t))
  ihave H' := (Entails.of_eq e1) $$ H
  iexact H'

/-- The whole owned at some contents is each piece of such a family owned at some contents. -/
theorem owns_shatter {T : Type} [Fintype T] [DecidableEq T] {sp : Space} (m : Memref sig c.2.kind sp s e)
    (q : PosShare TreeShare) (r : T → Rect s) (hr : ∀ t a, (r t).stride a = 1) (hd : ∀ t t', t ≠ t' → Disjoint (r t).set (r t').set)
    (hcov : (Finset.univ : Finset T).biUnion (fun t => (r t).set) = Finset.univ) :
    (iprop(∃ X, owns c m q X) : sProp 𝕄) ⊢ bigSep Finset.univ (fun t => iprop(∃ G, owns c (m.slice (r t) (hr t)) q G)) := by
  iintro ⟨%X, H⟩
  ihave H' := (owns_rects c m q r hr hd hcov X) $$ H
  have e1 : (bigSep Finset.univ (fun t => owns c (m.slice (r t) (hr t)) q (fun j => X ((r t).emb j))) : sProp 𝕄)
      ⊢ bigSep Finset.univ (fun t => iprop(∃ G, owns c (m.slice (r t) (hr t)) q G)) :=
    BI.bigSep_mono (fun t _ => (show (owns c (m.slice (r t) (hr t)) q (fun j => X ((r t).emb j)) : sProp 𝕄)
      ⊢ iprop(∃ G, owns c (m.slice (r t) (hr t)) q G) from by iintro H; iexists _; iexact H))
  iapply e1; iexact H'

/-- A load of a rectangle that some owned pieces cover together reads what the pieces hold. -/
theorem wp_load_joined [∀ e, Nonempty (Val e)] {T : Type} [Fintype T] [DecidableEq T] {cs : CoreSpace} {m : Memref sig c.2.kind cs s e}
    (r : T → Rect s) (hr : ∀ t a, (r t).stride a = 1) (hd : ∀ t t', t ≠ t' → Disjoint (r t).set (r t').set)
    {R : Rect s} {hl : m.view.LoadsAt R.toLoadRect} (hR : R.set ⊆ (Finset.univ : Finset T).biUnion (fun t => (r t).set))
    {k : (R.shape.Idx → Val e) → Prog (TpuEff nD τ sig Val Λ c.2) α} {q : PosShare TreeShare} (X : s.Idx → Val e) :
    (bigSep Finset.univ (fun t => owns c (m.slice (r t) (hr t)) q (fun j => X ((r t).emb j))) : sProp 𝕄)
      ⊢ iprop((bigSep Finset.univ (fun t => owns c (m.slice (r t) (hr t)) q (fun j => X ((r t).emb j)))
          -∗ wp frame (wpE' defs 𝒱 c bd Γ) E (k fun j => X (R.emb j)) Φ)
        -∗ wp frame (wpE' defs 𝒱 c bd Γ) E (.op (.load m R.toLoadRect hl) k) Φ) := by
  iintro H Hk
  ihave H' := (owns_rects_join c m q r hr hd X Finset.univ) $$ H
  icases H' with ⟨%g, %hg, H⟩
  have hsub : (m.access R).set ⊆ (Finset.univ : Finset T).biUnion (fun t => (m.view.slice (r t)).set) := by
    intro i hi
    have hi' : i ∈ (m.view.slice R).set := hi
    rw [View.set_slice] at hi'
    obtain ⟨x, hx, rfl⟩ := Finset.mem_map.mp hi'
    obtain ⟨t, -, ht⟩ := Finset.mem_biUnion.mp (hR hx)
    exact Finset.mem_biUnion.mpr ⟨t, Finset.mem_univ _, by rw [View.set_slice]; exact Finset.mem_map_of_mem _ ht⟩
  have hread : (m.access R).read Val g = fun j => X (R.emb j) := by
    funext j
    have hj : R.emb j ∈ R.set := R.map_emb_univ ▸ Finset.mem_map_of_mem _ (Finset.mem_univ j)
    obtain ⟨t, -, ht⟩ := Finset.mem_biUnion.mp (hR hj)
    obtain ⟨i, hi⟩ := (r t).exists_idx_of_mem ht
    have := hg t (Finset.mem_univ t) i
    rw [show (r t).emb i = R.emb j from hi] at this
    exact this
  iapply (wp_load_rect 𝒱 c bd E (f := g) hsub) $$ H
  iintro H
  rw [hread]
  iapply Hk
  have hdv : ∀ t ∈ (Finset.univ : Finset T), ∀ t' ∈ (Finset.univ : Finset T), t ≠ t' →
      Disjoint (m.view.slice (r t)).set (m.view.slice (r t')).set := fun t _ t' _ htt => by
    rw [View.set_slice, View.set_slice]; exact (Finset.disjoint_map _).mpr (hd t t' htt)
  have e1 := pointsTo_biUnion (ℓ := m.view.loc c) (q := q) (f := g) (Ix := Ix) (Name := Name) (U := U) (Lvl := Lvl) Finset.univ
    (fun t => (m.view.slice (r t)).set) hdv
  have e2 : ∀ t, (owns c (m.slice (r t) (hr t)) q (fun j => X ((r t).emb j)) : sProp 𝕄) = m.view.loc c ↦[(m.view.slice (r t)).set]{q} g := by
    intro t
    rw [← owns_slice_read c m q (r t) (hr t) g]
    exact congrArg (fun Z => (owns c (m.slice (r t) (hr t)) q Z : sProp 𝕄)) (funext fun j => (hg t (Finset.mem_univ t) j).symm)
  have e3 := (BI.bigSep_congr (s := Finset.univ) (fun t _ => e2 t)).trans e1.symm
  ihave H' := (Entails.of_eq e3.symm) $$ H
  iexact H'

/-- Owning a memref at a share is owning it at the two halves of the share. -/
theorem owns_half {sp : Space} (m : Memref sig c.2.kind sp s e) (q : PosShare TreeShare) (X : s.Idx → Val e) :
    (owns c m q X : sProp 𝕄) ⊢ iprop(owns c m q.left X ∗ owns c m q.right X) := by
  iintro H
  ihave H' := (owns_open c m q X) $$ H
  icases H' with ⟨%f, %hf, H⟩
  subst hf
  ihave H' := (pointsTo_share (PosShare.mem_left_op_right q)).1 $$ H
  icases H' with ⟨H1, H2⟩
  isplitl [H1]
  · iapply (owns_intro c m q.left f); iexact H1
  · iapply (owns_intro c m q.right f); iexact H2

/-- and back. -/
theorem owns_unhalf {sp : Space} (m : Memref sig c.2.kind sp s e) (q : PosShare TreeShare) (X : s.Idx → Val e) :
    iprop(owns c m q.left X ∗ owns c m q.right X) ⊢ (owns c m q X : sProp 𝕄) := by
  iintro ⟨H1, H2⟩
  ihave H1' := (owns_open c m q.left X) $$ H1
  ihave H2' := (owns_open c m q.right X) $$ H2
  icases H1' with ⟨%f, %hf, H1⟩
  icases H2' with ⟨%g, %hg, H2⟩
  have e1 : (m.view.loc c ↦[m.view.set]{q.right} g : sProp 𝕄) = m.view.loc c ↦[m.view.set]{q.right} f :=
    pointsTo_congr fun i hi => by
      obtain ⟨x, -, rfl⟩ := Finset.mem_map.mp hi
      have := congrFun (hg.trans hf.symm) x
      simp only [View.read] at this
      exact (cast_inj _).mp this
  ihave H2' := (Entails.of_eq e1) $$ H2
  iapply (owns_close c m q hf)
  iapply (pointsTo_share (PosShare.mem_left_op_right q)).2
  isplitl [H1]; · iexact H1
  iexact H2'

/-- The rectangle of a whole shape places every index at itself, -/
theorem whole_emb {s : Shape} {off : Fin s.rank → ℕ} (h : off = fun _ => 0) (inb : ∀ a, off a + s.size a ≤ s.size a) (j : s.Idx) :
    (Rect.unit (s := s) off s.size inb).emb j = j := by
  subst h
  funext a; apply Fin.ext
  show 0 + 1 * (j a).val = (j a).val
  omega

/-- so that what is read there is everything, -/
theorem whole_read {s : Shape} {A : Type} {off : Fin s.rank → ℕ} (h : off = fun _ => 0) (inb : ∀ a, off a + s.size a ≤ s.size a) (X : s.Idx → A) :
    (fun j => X ((Rect.unit (s := s) off s.size inb).emb j)) = X := funext fun j => congrArg X (whole_emb h inb j)

/-- and what is stored there replaces everything. -/
theorem whole_overlay {s : Shape} {A : Type} {off : Fin s.rank → ℕ} (h : off = fun _ => 0) (inb : ∀ a, off a + s.size a ≤ s.size a)
    (X w : s.Idx → A) : (Rect.unit (s := s) off s.size inb).overlay X w = w := by
  funext j
  refine Eq.trans ?_ (Rect.overlay_emb (Rect.unit (s := s) off s.size inb) X w j)
  exact congrArg _ (whole_emb h inb j).symm

/-- A load of everything a memref places. -/
theorem wp_load_all {cs : CoreSpace} {m : Memref sig c.2.kind cs s e} {off : Fin s.rank → ℕ} (h : off = fun _ => 0)
    {inb : ∀ a, off a + s.size a ≤ s.size a} {hl : m.view.LoadsAt (Rect.unit (s := s) off s.size inb).toLoadRect}
    {k : (s.Idx → Val e) → Prog (TpuEff nD τ sig Val Λ c.2) α} {q : PosShare TreeShare} {X : s.Idx → Val e} :
    (owns c m q X : sProp 𝕄)
      ⊢ iprop((owns c m q X -∗ wp frame (wpE' defs 𝒱 c bd Γ) E (k X) Φ)
        -∗ wp frame (wpE' defs 𝒱 c bd Γ) E (.op (.load m (Rect.unit (s := s) off s.size inb).toLoadRect hl) k) Φ) := by
  have e := wp_load_owns (Γ := Γ) (Φ := Φ) (k := k) (hl := hl) (defs := defs) (q := q) (X := X) (Name := Name) (U := U) (Lvl := Lvl) (Ix := Ix) 𝒱 c bd E
  rw [whole_read h inb X] at e
  exact e

/-- A store of everything a memref places. -/
theorem wp_store_all {cs : CoreSpace} {m : Memref sig c.2.kind cs s e} {off : Fin s.rank → ℕ} (h : off = fun _ => 0)
    {inb : ∀ a, off a + s.size a ≤ s.size a} {w : s.Idx → Val e} {hx : (m.access (Rect.unit (s := s) off s.size inb)).Stores Finset.univ}
    {hm : (Finset.univ : Finset (Rect.unit (s := s) off s.size inb).shape.Idx) = Finset.univ ∨ ∀ a, (Rect.unit (s := s) off s.size inb).stride a = 1}
    {k : PUnit → Prog (TpuEff nD τ sig Val Λ c.2) α} {X : s.Idx → Val e} :
    (owns c m fullShare X : sProp 𝕄)
      ⊢ iprop((owns c m fullShare w -∗ wp frame (wpE' defs 𝒱 c bd Γ) E (k ⟨⟩) Φ)
        -∗ wp frame (wpE' defs 𝒱 c bd Γ) E (.op (.store m (Rect.unit (s := s) off s.size inb) w Finset.univ hx hm) k) Φ) := by
  have e := wp_store_over (Γ := Γ) (Φ := Φ) (k := k) (hx := hx) (hm := hm) (w := w) (defs := defs) (X := X) (Name := Name) (U := U) (Lvl := Lvl) (Ix := Ix) 𝒱 c bd E
  rw [whole_overlay h inb X w] at e
  exact e

end Cert.Own

end
-- ==== Proof.Cells.lean ====
/-
# The exchange: its memrefs, its semaphores, who sends to whom

Device `c` computes four column blocks of its rows of the product, in the order of the offsets `2, 1, 3, 0`: block `j` belongs
to device `c + off j`. Each block is made in two halves of 512 rows. The first three are sent, half by half, to the device
`off j` places further on; the fourth is device `c`'s own. Besides, each device sends one tile that holds its largest magnitude
to the three others.

This file names the pieces: the halves of the send and the landing buffer, the tiles of the landing buffer of the magnitudes,
the two staging slots of the weights, the columns of the weights a block takes, and the 21 semaphore cells of a device.
-/
module

public import proofs.«01_k».proof.Proof.Own
public import proofs.«01_k».proof.Proof.Gen.KernelIdeal
public import proofs.«01_k».proof.Proof.Gen.KernelIdeal.Skeleton
public import proofs.«01_k».proof.Proof.Gen.KernelIdeal.Launch

@[expose] public section

noncomputable section

namespace Cert.Exchange

open Cert.KernelIdeal Cert.KernelIdeal.Gen
open Idealize.ShloMosaic
open Idealize.ShloMosaic.TcCoe

/-! ## Who sends to whom -/

set_option backward.proofsInPublic true in
/-- The device `s + 1` places further on: the one device `c`'s slot `s` sends to. -/
def peer (c : Dev nD) (s : Fin 3) : Dev nD := ⟨(c.val + s.val + 1) % 4, Nat.mod_lt _ (by decide)⟩
set_option backward.proofsInPublic true in
/-- The device `s + 1` places before: the one whose slot `s` sends to device `c`. -/
def src (c : Dev nD) (s : Fin 3) : Dev nD := ⟨(c.val + 3 - s.val) % 4, Nat.mod_lt _ (by decide)⟩

theorem peer_src (c : Dev nD) (s : Fin 3) : peer (src c s) s = c := by revert c s; decide
theorem src_peer (c : Dev nD) (s : Fin 3) : src (peer c s) s = c := by revert c s; decide
theorem peer_rev (c : Dev nD) (s : Fin 3) : peer (peer c s) s.rev = c := by revert c s; decide
theorem peer_rev' (c : Dev nD) (s : Fin 3) : peer (peer c s.rev) s = c := by revert c s; decide

/-- The devices, each taken to the one its slot `s` sends to. -/
def ring (s : Fin 3) : Dev nD ≃ Dev nD := ⟨fun c => peer c s, fun c => src c s, fun c => src_peer c s, fun c => peer_src c s⟩

/-- The offset of block `j`: it belongs to the device so many places further on. -/
def off : Fin 4 → Fin 4 := ![2, 1, 3, 0]
/-- The block slot `s` carries. -/
def blkOf : Fin 3 → Fin 4 := ![1, 0, 2]

/-- The device block `j` of device `c` belongs to. -/
def dest (c : Dev nD) (j : Fin 4) : Dev nD := c + off j

theorem off_blkOf (s : Fin 3) : (off (blkOf s)).val = s.val + 1 := by revert s; decide
theorem dest_blkOf (c : Dev nD) (s : Fin 3) : dest c (blkOf s) = peer c s := by revert c s; decide

theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 1 := by revert c; decide +kernel
theorem dev5_eq (c : Dev nD) : (⟨k0_dev5 c, k0_dev5_lt c⟩ : Dev nD) = peer c 1 := by revert c; decide +kernel
theorem dev6_eq (c : Dev nD) : (⟨k0_dev6 c, k0_dev6_lt c⟩ : Dev nD) = peer c 0 := by revert c; decide +kernel
theorem dev7_eq (c : Dev nD) : (⟨k0_dev7 c, k0_dev7_lt c⟩ : Dev nD) = peer c 0 := by revert c; decide +kernel
theorem dev8_eq (c : Dev nD) : (⟨k0_dev8 c, k0_dev8_lt c⟩ : Dev nD) = peer c 2 := by revert c; decide +kernel
theorem dev9_eq (c : Dev nD) : (⟨k0_dev9 c, k0_dev9_lt c⟩ : Dev nD) = peer c 2 := by revert c; decide +kernel
theorem dev10_eq (c : Dev nD) : (⟨k0_dev10 c, k0_dev10_lt c⟩ : Dev nD) = peer c 0 := by revert c; decide +kernel
theorem dev11_eq (c : Dev nD) : (⟨k0_dev11 c, k0_dev11_lt c⟩ : Dev nD) = peer c 1 := by revert c; decide +kernel
theorem dev12_eq (c : Dev nD) : (⟨k0_dev12 c, k0_dev12_lt c⟩ : Dev nD) = peer c 2 := by revert c; decide +kernel

/-- The columns of the weights that block `j` of device `c` takes start at 512 times the device the block belongs to. -/
theorem off1_eq (c : Dev nD) (j : Fin 4) : k0_off1 c (BitVec.ofNat 32 (off j).val) = ![0, 512 * (dest c j).val] := by
  revert c j; decide +kernel
/-- The rows of the result where the half `h` that slot `s` lands goes. -/
theorem off3_eq (c : Dev nD) (s : Fin 3) (h : Fin 2) :
    k0_off3 c (BitVec.ofNat 32 (1 + s.val)) (BitVec.ofNat 32 (512 * h.val)) = ![1024 * (src c s).val + 512 * h.val, 0] := by
  revert c s h; decide +kernel

/-! ## The memrefs -/

abbrev xM : Memref sig .tc .vmem S1024x4096 .f32 := Memref.whole cc0_stg0_0
abbrev oM : Memref sig .tc .vmem S4096x512 .bf16 := Memref.whole cc0_stg1_0
abbrev gM : Memref sig .tc .hbm S4096x2048 .f32 := Memref.whole main_arg1
abbrev xbM : Memref sig .tc .vmem S1024x4096 .bf16 := Memref.whole cc0_scratch0
abbrev wM : Memref sig .tc .vmem S2x4096x512 .f32 := Memref.whole cc0_scratch1
abbrev yM : Memref sig .tc .vmem S4x1024x512 .bf16 := Memref.whole cc0_scratch2
abbrev rM : Memref sig .tc .vmem S3x1024x512 .bf16 := Memref.whole cc0_scratch3
abbrev sM : Memref sig .tc .vmem S8x128 .f32 := Memref.whole cc0_scratch4
abbrev aM : Memref sig .tc .vmem S4x8x128 .f32 := Memref.whole cc0_scratch5

theorem yR_inb (j : Fin 4) (h : Fin 2) : ∀ a, (![j.val, 512 * h.val, 0] : Fin 3 → ℕ) a + S1x512x512.size a ≤ S4x1024x512.size a := by
  revert j h; decide
theorem rR_inb (s : Fin 3) (h : Fin 2) : ∀ a, (![s.val, 512 * h.val, 0] : Fin 3 → ℕ) a + S1x512x512.size a ≤ S3x1024x512.size a := by
  revert s h; decide
theorem aR_inb (d : Fin 4) : ∀ a, (![d.val, 0, 0] : Fin 3 → ℕ) a + S1x8x128.size a ≤ S4x8x128.size a := by
  revert d; decide
theorem wR_inb (k : Fin 2) : ∀ a, (![k.val, 0, 0] : Fin 3 → ℕ) a + S1x4096x512.size a ≤ S2x4096x512.size a := by
  revert k; decide
theorem xR_inb (h : Fin 2) : ∀ a, (![512 * h.val, 0] : Fin 2 → ℕ) a + S512x4096.size a ≤ S1024x4096.size a := by
  revert h; decide

/-- Half `h` of block `j` in the buffer of the blocks. -/
abbrev yR (j : Fin 4) (h : Fin 2) : Rect S4x1024x512 := Rect.unit (s := S4x1024x512) ![j.val, 512 * h.val, 0] S1x512x512.size (yR_inb j h)
/-- Half `h` of slot `s` in the landing buffer. -/
abbrev rR (s : Fin 3) (h : Fin 2) : Rect S3x1024x512 := Rect.unit (s := S3x1024x512) ![s.val, 512 * h.val, 0] S1x512x512.size (rR_inb s h)
/-- Tile `d` of the landing buffer of the magnitudes. -/
abbrev aR (d : Fin 4) : Rect S4x8x128 := Rect.unit (s := S4x8x128) ![d.val, 0, 0] S1x8x128.size (aR_inb d)
/-- Slot `k` of the staging buffer of the weights. -/
abbrev wR (k : Fin 2) : Rect S2x4096x512 := Rect.unit (s := S2x4096x512) ![k.val, 0, 0] S1x4096x512.size (wR_inb k)
/-- Half `h` of the rows of the activations. -/
abbrev xR (h : Fin 2) : Rect S1024x4096 := Rect.unit (s := S1024x4096) ![512 * h.val, 0] S512x4096.size (xR_inb h)
/-- The columns of the weights block `j` of device `c` takes. -/
abbrev gR (c : Dev nD) (j : Fin 4) : Rect S4096x2048 :=
  Rect.unit (s := S4096x2048) (k0_off1 c (BitVec.ofNat 32 (off j).val)) S4096x512.size (k0_off1_inb c (off j))
/-- The rows of the result the device's own block goes to. -/
abbrev oR (c : Dev nD) : Rect S4096x512 := Rect.unit (s := S4096x512) (k0_off2 c) S1024x512.size (k0_off2_inb c)
/-- The rows of the result the half `h` landed in slot `s` goes to. -/
abbrev lR (c : Dev nD) (s : Fin 3) (h : Fin 2) : Rect S4096x512 :=
  Rect.unit (s := S4096x512) (k0_off3 c (BitVec.ofNat 32 (1 + s.val)) (BitVec.ofNat 32 (512 * h.val))) S512x512.size (k0_off3_inb c s h)

abbrev yP (j : Fin 4) (h : Fin 2) : Memref sig .tc .vmem S1x512x512 .bf16 := yM.slice (yR j h) (fun _ => rfl)
abbrev rP (s : Fin 3) (h : Fin 2) : Memref sig .tc .vmem S1x512x512 .bf16 := rM.slice (rR s h) (fun _ => rfl)
abbrev aP (d : Fin 4) : Memref sig .tc .vmem S1x8x128 .f32 := aM.slice (aR d) (fun _ => rfl)
abbrev wP (k : Fin 2) : Memref sig .tc .vmem S1x4096x512 .f32 := wM.slice (wR k) (fun _ => rfl)
abbrev gP (c : Dev nD) (j : Fin 4) : Memref sig .tc .hbm S4096x512 .f32 := gM.slice (gR c j) (fun _ => rfl)

abbrev yQ (j : Fin 4) (h : Fin 2) : Memref sig .tc .vmem S512x512 .bf16 := (yP j h).squeeze S512x512 squeezes_S1x512x512_S512x512
abbrev rQ (s : Fin 3) (h : Fin 2) : Memref sig .tc .vmem S512x512 .bf16 := (rP s h).squeeze S512x512 squeezes_S1x512x512_S512x512
abbrev aQ (d : Fin 4) : Memref sig .tc .vmem S8x128 .f32 := (aP d).squeeze S8x128 squeezes_S1x8x128_S8x128
abbrev wQ (k : Fin 2) : Memref sig .tc .vmem S4096x512 .f32 := (wP k).squeeze S4096x512 squeezes_S1x4096x512_S4096x512

/-! ## The semaphores -/

/-- The runtime's barrier semaphore of the collective. -/
abbrev barS : Sem sig := (SemArray.scalar (sig.barrier 0 rfl) : Sems sig S_).sem

theorem s2_inb (k : Fin 2) : ∀ a, (![k.val] : Fin 1 → ℕ) a + S1.size a ≤ S2.size a := by revert k; decide
theorem s3_inb (s : Fin 3) : ∀ a, (![s.val] : Fin 1 → ℕ) a + S1.size a ≤ S3.size a := by revert s; decide
theorem s32_inb (s : Fin 3) (h : Fin 2) : ∀ a, (![s.val, h.val] : Fin 2 → ℕ) a + S1x1.size a ≤ S3x2.size a := by revert s h; decide

abbrev wS (k : Fin 2) : DmaSem sig := ((cc0_scratch6.slice (Rect.unit (s := S2) ![k.val] S1.size (s2_inb k))).squeeze S_ squeezes_S1_S_).sem
abbrev ysS (s : Fin 3) (h : Fin 2) : DmaSem sig :=
  ((cc0_scratch7.slice (Rect.unit (s := S3x2) ![s.val, h.val] S1x1.size (s32_inb s h))).squeeze S_ squeezes_S1x1_S_).sem
abbrev yrS (s : Fin 3) (h : Fin 2) : DmaSem sig :=
  ((cc0_scratch8.slice (Rect.unit (s := S3x2) ![s.val, h.val] S1x1.size (s32_inb s h))).squeeze S_ squeezes_S1x1_S_).sem
abbrev asS (s : Fin 3) : DmaSem sig := ((cc0_scratch9.slice (Rect.unit (s := S3) ![s.val] S1.size (s3_inb s))).squeeze S_ squeezes_S1_S_).sem
abbrev arS (s : Fin 3) : DmaSem sig := ((cc0_scratch10.slice (Rect.unit (s := S3) ![s.val] S1.size (s3_inb s))).squeeze S_ squeezes_S1_S_).sem

/-- A device's 21 cells, numbered: the barrier 0; the two of the weights 1, 2; the halves' sends 3 to 8; their landings 9 to
    14; the magnitudes' sends 15 to 17; their landings 18 to 20. -/
abbrev kB : Fin 21 := 0
abbrev kW (k : Fin 2) : Fin 21 := ⟨1 + k.val, by omega⟩
abbrev kYs (s : Fin 3) (h : Fin 2) : Fin 21 := ⟨3 + (2 * s.val + h.val), by omega⟩
abbrev kYr (s : Fin 3) (h : Fin 2) : Fin 21 := ⟨9 + (2 * s.val + h.val), by omega⟩
abbrev kAs (s : Fin 3) : Fin 21 := ⟨15 + s.val, by omega⟩
abbrev kAr (s : Fin 3) : Fin 21 := ⟨18 + s.val, by omega⟩

/-- The semaphore of cell `k`. -/
def csem (k : Fin 21) : SemLoc sig := if k.val = 0 then .reg barS else .dma ⟨k.val + 1, by have := k.isLt; show _ < 22; omega⟩

theorem csem_B : (.reg barS : SemLoc sig) = csem kB := by decide
theorem csem_W (k : Fin 2) : (.dma (wS k) : SemLoc sig) = csem (kW k) := by revert k; decide
theorem csem_Ys (s : Fin 3) (h : Fin 2) : (.dma (ysS s h) : SemLoc sig) = csem (kYs s h) := by revert s h; decide
theorem csem_Yr (s : Fin 3) (h : Fin 2) : (.dma (yrS s h) : SemLoc sig) = csem (kYr s h) := by revert s h; decide
theorem csem_As (s : Fin 3) : (.dma (asS s) : SemLoc sig) = csem (kAs s) := by revert s; decide
theorem csem_Ar (s : Fin 3) : (.dma (arS s) : SemLoc sig) = csem (kAr s) := by revert s; decide

/-- The cell a semaphore is, 21 for one that is none of them. -/
def ix : SemLoc sig → ℕ
  | .reg _ => 0
  | .dma q => if q.val < 2 then 21 else q.val - 1

theorem ix_csem (k : Fin 21) : ix (csem k) = k.val := by revert k; decide
theorem csem_injective : Function.Injective csem := fun a b h => Fin.ext (by rw [← ix_csem a, ← ix_csem b, h])

/-- Cell `k` of device `c`. -/
abbrev cell (c : Dev nD) (k : Fin 21) : GSem nD τ sig := ((c : Thread nD τ), csem k)

/-! ## The credit of a transfer -/

/-- What a copy of one column block of the weights credits. -/
def NW : ℕ := (wQ 0).view.dmaCredit
/-- What a transfer of one half credits. -/
def NY : ℕ := (yQ 0 0).view.dmaCredit
/-- What a transfer of one tile of the magnitudes credits. -/
def NA : ℕ := (sM : Memref sig .tc .vmem S8x128 .f32).view.dmaCredit

theorem NW_pos : 0 < NW := View.dmaCredit_pos _ (by decide)
theorem NY_pos : 0 < NY := View.dmaCredit_pos _ (by decide)
theorem NA_pos : 0 < NA := View.dmaCredit_pos _ (by decide)

theorem credit_w (k : Fin 2) : (wQ k).view.dmaCredit = NW := rfl
theorem credit_y (j : Fin 4) (h : Fin 2) : (yQ j h).view.dmaCredit = NY := rfl
theorem credit_r (s : Fin 3) (h : Fin 2) : (rQ s h).view.dmaCredit = NY := rfl
theorem credit_a (d : Fin 4) : (aQ d).view.dmaCredit = NA := rfl

end Cert.Exchange

end
-- ==== Proof.Contents.lean ====
/-
# What the pieces hold

From the memory at launch: the activations and the weights' columns as the kernel reads them, each half of a block of the
product, its largest magnitude, and from these what each landing hands over. `F` is any interpretation of the float values.
-/
module

public import proofs.«01_k».proof.Proof.Cells
public import Idealize.ShloMosaic.Lib.Pointwise.Index

@[expose] public section

noncomputable section

namespace Cert.Exchange

open Cert.KernelIdeal Cert.KernelIdeal.Gen
open Idealize.ShloMosaic
open Idealize.ShloMosaic.TcCoe

variable {F : FTy → Type} [FloatOps F]
variable (m : (ℓ : Loc nD τ sig) → Buf (Elt F) ℓ)

/-- Device `c`'s rows of the activations. -/
def xstg (c : Dev nD) : Vec F S1024x4096 .f32 := (win0_0.blk (0 : Fin 1)).view.read (Elt F) (m ((c : Thread nD τ).loc main_arg0))
/-- The same, in the buffer of the narrow float. -/
def xb (c : Dev nD) : Vec F S1024x4096 .bf16 := k0_pay1 (xstg m c)
/-- Half `h` of those rows. -/
def xh (c : Dev nD) (h : Fin 2) : Vec F S512x4096 .bf16 := fun i => xb m c ((xR h).emb i)
/-- The columns of the weights block `j` takes. -/
def wcol (c : Dev nD) (j : Fin 4) : Vec F S4096x512 .f32 := (gP c j).view.read (Elt F) (m ((c : Thread nD τ).loc main_arg1))
/-- The same, as the staging slot holds them. -/
def wb (c : Dev nD) (j : Fin 4) : Vec F S1x4096x512 .f32 :=
  fun i => wcol m c j ((Shape.reshapeEquiv squeezes_S1x4096x512_S4096x512.numel_eq).symm i)

/-- Half `h` of block `j` of device `c`'s rows of the product. -/
def Yf (c : Dev nD) (j : Fin 4) (h : Fin 2) : FVec F S512x512 .f32 := k0_pay3 (wb m c j) (xh m c h)
/-- The same, as the buffer of the blocks holds it. -/
def Y (c : Dev nD) (j : Fin 4) (h : Fin 2) : FVec F S1x512x512 .bf16 := k0_pay6 (Yf m c j h)

/-- The largest magnitude of a half. -/
def hmax (y : FVec F S512x512 .f32) : F .f32 :=
  extractAt ![0, 0, 0] (shapeCast S1x1x1 (multiReduction .maximumf [1, 2] S1 (shapeCast S1x512x512 (absf y) shapeCasts_S512x512_S1x512x512)
    0xFF800000#32 reduces_S1x512x512_S1 (.inl rfl) rfl) shapeCasts_S1_S1x1x1) inpos_S1x1x1_p0_0_0

/-- The largest magnitude of the first `n` halves of device `c`'s blocks, and zero. -/
def pm (c : Dev nD) : ℕ → F .f32
  | 0 => Scalar.ofBits .f32 0x00000000#32
  | n + 1 => Scalar.maximumf (pm c n) (hmax (Yf m c (Fin.ofNat 4 (n / 2)) (Fin.ofNat 2 (n % 2))))
/-- The largest magnitude of all eight. -/
def am (c : Dev nD) : F .f32 := pm m c 8

/-- The tile of the magnitudes device `c` sends. -/
def amT (c : Dev nD) : Vec F S8x128 .f32 := fun _ => am m c
/-- The buffer of the magnitudes on device `c` once all have landed: its own in tile 0, in tile `d` that of the device `d` places
    before. -/
def amAll (c : Dev nD) : Vec F S4x8x128 .f32 := fun i => am m (c - Fin.ofNat 4 (i 0).val)

/-- The factor to the quantised range and the step of the quantised values. -/
def inv (c : Dev nD) : F .f32 := k0_pay36 (amAll m c)
def scl (c : Dev nD) : F .f32 := k0_pay37 (amAll m c)

/-- The result's half that comes from half `h` of block `j` of device `o`. -/
def piece (c o : Dev nD) (j : Fin 4) (h : Fin 2) : FVec F S512x512 .bf16 := k0_pay39 (inv m c) (scl m c) (Y m o j h)

/-- Device `c`'s own block in the buffer of the blocks, the two halves one above the other. -/
def own (c : Dev nD) : Vec F S1x1024x512 .bf16 := fun i =>
  Y m c 3 (Fin.ofNat 2 ((i 1).val / 512)) (ix3 (n0 := 1) (n1 := 512) (n2 := 512) 0 (Fin.ofNat 512 (i 1).val) (i 2))

/-- The block of device `o` that belongs to device `c`. -/
def blkTo (c o : Dev nD) : Fin 4 := (![3, 1, 0, 2] : Fin 4 → Fin 4) (c - o)

theorem dest_blkTo (c o : Dev nD) : dest o (blkTo c o) = c := by revert c o; decide
theorem blkTo_src (c : Dev nD) (s : Fin 3) : blkTo c (src c s) = blkOf s := by revert c s; decide
theorem blkTo_self (c : Dev nD) : blkTo c c = 3 := by revert c; decide

/-- The result of device `c`: its column block of the whole product, quantised; rows `1024 o` on come from device `o`. -/
def outAt (c : Dev nD) : Vec F S4096x512 .bf16 := fun i =>
  piece m c (Fin.ofNat 4 ((i 0).val / 1024)) (blkTo c (Fin.ofNat 4 ((i 0).val / 1024))) (Fin.ofNat 2 ((i 0).val / 512))
    (ix2 (n0 := 512) (n1 := 512) (Fin.ofNat 512 (i 0).val) (i 1))

end Cert.Exchange

end
-- ==== Proof.Protocol.lean ====
/-
# The protocol

Each of a device's 21 semaphore cells, who pays it, how much, and what is handed over with the payment.

* The barrier (level 1): one round of three units. Unit `d` of device `t`'s barrier is paid by the device `t`'s slot `d` sends to,
  and hands `t` the landing places of that slot there: the two halves and the tile. So a device sends nothing to a peer that has
  not entered the kernel.
* The weights' two cells (level 0): two rounds each, a device's own copies. A landing hands over the staging slot at the columns
  copied, and the share of the weights that the copy read.
* The sends of the halves and of the tile (level 0): one round; the sender has back what it sent.
* The landings of the halves and of the tile (level 2): one round, paid by the device that sends to this slot; the landing place
  at what that device computed.

A device owes from the start three barrier units, six half landings and three tile landings at its peers, in the order in which it
pays them. It waits for its barrier owing landings only, and for landings owing nothing.
-/
module

public import proofs.«01_k».proof.Proof.Contents

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's and the exchange's, whose duties are named by a slot. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## What each payment hands over -/

/-- The shares of the tile that the three sends read. -/
def aq : Fin 3 → PosShare TreeShare := ![fullShare.left, fullShare.right.left, fullShare.right.right]
/-- The shares of the weights that the two staging slots' copies read. -/
def gq : Fin 2 → PosShare TreeShare := ![fullShare.left, fullShare.right]
/-- The block that round `r` of staging slot `k` loads the columns of. -/
def jw (k : Fin 2) (r : ℕ) : Fin 4 := Fin.ofNat 4 (k.val + 2 * r)

/-- The landing places of slot `s` on device `c`, at any contents. -/
def land (c : Dev nD) (s : Fin 3) : sProp 𝕄 :=
  iprop((∃ X, ownsTc c (rP s 0) fullShare X) ∗ (∃ X, ownsTc c (rP s 1) fullShare X) ∗ (∃ X, ownsTc c (aP s.succ) fullShare X))

/-- Device `c`'s share of the weights at the columns of block `j`. -/
def gShare (c : Dev nD) (k : Fin 2) (j : Fin 4) : sProp 𝕄 :=
  (gP c j).view.loc (c : Thread nD τ) ↦[(gP c j).view.set]{gq k} m ((c : Thread nD τ).loc main_arg1)

/-- Staging slot `k` at the columns of block `j`, with the share read. -/
def wPay (c : Dev nD) (k : Fin 2) (j : Fin 4) : sProp 𝕄 := iprop(ownsTc c (wP k) fullShare (wb m c j) ∗ gShare m c k j)
def ysPay (c : Dev nD) (s : Fin 3) (h : Fin 2) : sProp 𝕄 := ownsTc c (yP (blkOf s) h) fullShare (Y m c (blkOf s) h)
def yrPay (c : Dev nD) (s : Fin 3) (h : Fin 2) : sProp 𝕄 := ownsTc c (rP s h) fullShare (Y m (src c s) (blkOf s) h)
def asPay (c : Dev nD) (s : Fin 3) : sProp 𝕄 := ownsTc c sM (aq s) (amT m c)
def arPay (c : Dev nD) (s : Fin 3) : sProp 𝕄 := ownsTc c (aP s.succ) fullShare (fun _ => am m (src c s))

/-- What is handed over with duty `d` of round `r` of cell `k` of device `c`. -/
def pay (c : Dev nD) (k r : ℕ) (d : Fin 3) : sProp 𝕄 :=
  if k = 0 then land (peer c d) d
  else if k < 3 then wPay m c (Fin.ofNat 2 (k - 1)) (jw (Fin.ofNat 2 (k - 1)) r)
  else if k < 9 then ysPay m c (Fin.ofNat 3 ((k - 3) / 2)) (Fin.ofNat 2 (k - 3))
  else if k < 15 then yrPay m c (Fin.ofNat 3 ((k - 9) / 2)) (Fin.ofNat 2 (k - 9))
  else if k < 18 then asPay m c (Fin.ofNat 3 (k - 15))
  else arPay m c (Fin.ofNat 3 (k - 18))

omit [FloatOps F] in
instance land_storable (c : Dev nD) (s : Fin 3) : BI.Storable (upEmb : UEmb _ 𝕄) (land (F := F) c s) := by unfold land; infer_instance

instance pay_storable (c : Dev nD) (k r : ℕ) (d : Fin 3) : BI.Storable (upEmb : UEmb _ 𝕄) (pay m c k r d) := by
  unfold pay wPay gShare ysPay yrPay asPay arPay
  (repeat' split) <;> infer_instance

/-! ## The schedule -/

/-- The credit of a payment to cell `k`. -/
def amt (k : ℕ) : ℕ := if k = 0 then 1 else if k < 3 then NW else if k < 15 then NY else NA
/-- The number of rounds of cell `k`. -/
def rounds (k : ℕ) : ℕ := if k = 1 ∨ k = 2 then 2 else if k < 21 then 1 else 0

theorem amt_pos (k : ℕ) : 0 < amt k := by
  unfold amt; (repeat' split)
  · exact Nat.one_pos
  · exact NW_pos
  · exact NY_pos
  · exact NA_pos

def Rd : Rounds.Schedule (GSem nD τ sig) (Fin 3) 𝕄 where
  duties g r := if g.1.2 = .tc ∧ r < rounds (ix g.2) then (if ix g.2 = 0 then Finset.univ else {0}) else ∅
  unitless _ := False
  amount g _ _ := amt (ix g.2)
  payload g r d := pay m g.1.1 (ix g.2) r d
  amount_pos g _ _ _ := amt_pos _

instance Rd_storable (g : GSem nD τ sig) (r : ℕ) (d : Fin 3) : BI.Storable (upEmb : UEmb _ 𝕄) ((Rd (F := F) m).payload g r d) :=
  pay_storable m _ _ _ _

theorem duties_bar (c : Dev nD) : (Rd (F := F) m).duties (cell c kB) 0 = Finset.univ := by
  dsimp only [Rd]; rw [ix_csem]; rfl
theorem duties_one (c : Dev nD) (k : Fin 21) (h0 : k ≠ 0) (r : ℕ) (hr : r < rounds k.val) : (Rd (F := F) m).duties (cell c k) r = {0} := by
  dsimp only [Rd]; rw [ix_csem, if_pos ⟨rfl, hr⟩, if_neg (fun h : k.val = 0 => h0 (Fin.ext h))]
theorem duties_later (c : Dev nD) (k : Fin 21) (R : ℕ) (hR : rounds k.val ≤ R) : ∀ r, R ≤ r → (Rd (F := F) m).duties (cell c k) r = ∅ :=
  fun r hr => by dsimp only [Rd]; rw [ix_csem, if_neg (fun h => by omega)]
theorem amount_eq (c : Dev nD) (k : Fin 21) (r : ℕ) (d : Fin 3) : (Rd (F := F) m).amount (cell c k) r d = amt k.val := by
  dsimp only [Rd]; rw [ix_csem]
theorem payload_eq (c : Dev nD) (k : Fin 21) (r : ℕ) (d : Fin 3) : (Rd (F := F) m).payload (cell c k) r d = pay m c k.val r d := by
  dsimp only [Rd]; rw [ix_csem]
theorem expect_bar (c : Dev nD) : (Rd (F := F) m).expect (cell c kB) 0 = 3 := by
  unfold Schedule.expect Schedule.amountOf
  rw [duties_bar, Finset.sum_congr rfl fun d _ => amount_eq m c kB 0 d]; rfl
theorem expect_one (c : Dev nD) (k : Fin 21) (h0 : k ≠ 0) (r : ℕ) (hr : r < rounds k.val) : (Rd (F := F) m).expect (cell c k) r = amt k.val := by
  unfold Schedule.expect Schedule.amountOf
  rw [duties_one m c k h0 r hr, Finset.sum_singleton, amount_eq]
/-- The rest of a one-duty round, nothing of it taken, is its payload. -/
theorem rest_one (c : Dev nD) (k : Fin 21) (h0 : k ≠ 0) (r : ℕ) (hr : r < rounds k.val) :
    bigSep ((Rd (F := F) m).duties (cell c k) r \ ∅) (fun d => (Rd (F := F) m).payload (cell c k) r d) = pay m c k.val r 0 := by
  rw [Finset.sdiff_empty, duties_one m c k h0 r hr, bigSep_singleton, payload_eq]
/-- The barrier's round: the landing places of the three slots. -/
theorem rest_bar (c : Dev nD) :
    bigSep ((Rd (F := F) m).duties (cell c kB) 0 \ ∅) (fun d => (Rd (F := F) m).payload (cell c kB) 0 d)
      = iprop(land (peer c 0) 0 ∗ land (peer c 1) 1 ∗ land (peer c 2) 2) := by
  rw [Finset.sdiff_empty, duties_bar, bigSep_univ_eq_bigSepL [0, 1, 2] (by decide) (by decide)]
  simp only [bigSepL_cons_cons, bigSepL_singleton, payload_eq]
  rfl

theorem pay_bar (c : Dev nD) (r : ℕ) (d : Fin 3) : pay m c kB.val r d = land (peer c d) d := rfl
theorem pay_W (c : Dev nD) (k : Fin 2) (r : ℕ) (d : Fin 3) : pay m c (kW k).val r d = wPay m c k (jw k r) := by
  fin_cases k <;> rfl
theorem pay_Ys (c : Dev nD) (s : Fin 3) (h : Fin 2) (r : ℕ) (d : Fin 3) : pay m c (kYs s h).val r d = ysPay m c s h := by
  fin_cases s <;> fin_cases h <;> rfl
theorem pay_Yr (c : Dev nD) (s : Fin 3) (h : Fin 2) (r : ℕ) (d : Fin 3) : pay m c (kYr s h).val r d = yrPay m c s h := by
  fin_cases s <;> fin_cases h <;> rfl
theorem pay_As (c : Dev nD) (s : Fin 3) (r : ℕ) (d : Fin 3) : pay m c (kAs s).val r d = asPay m c s := by
  fin_cases s <;> rfl
theorem pay_Ar (c : Dev nD) (s : Fin 3) (r : ℕ) (d : Fin 3) : pay m c (kAr s).val r d = arPay m c s := by
  fin_cases s <;> rfl

theorem amt_W (k : Fin 2) : amt (kW k).val = NW := by fin_cases k <;> rfl
theorem amt_Ys (s : Fin 3) (h : Fin 2) : amt (kYs s h).val = NY := by fin_cases s <;> fin_cases h <;> rfl
theorem amt_Yr (s : Fin 3) (h : Fin 2) : amt (kYr s h).val = NY := by fin_cases s <;> fin_cases h <;> rfl
theorem amt_As (s : Fin 3) : amt (kAs s).val = NA := by fin_cases s <;> rfl
theorem amt_Ar (s : Fin 3) : amt (kAr s).val = NA := by fin_cases s <;> rfl

/-! ## What a device owes, and the levels -/

/-- The tallies a list of payments still owes, the head paid first. -/
def owe : List (GSem nD τ sig × ℕ) → CellTallies nD τ sig Unit
  | [] => 0
  | x :: l => owe l + tallyAt x.1 () x.2

/-- What device `c` owes: the landings at its peers, -/
def duesL (c : Dev nD) : List (GSem nD τ sig × ℕ) :=
  [(cell (peer c 1) (kYr 1 0), NY), (cell (peer c 1) (kYr 1 1), NY), (cell (peer c 0) (kYr 0 0), NY), (cell (peer c 0) (kYr 0 1), NY),
   (cell (peer c 2) (kYr 2 0), NY), (cell (peer c 2) (kYr 2 1), NY),
   (cell (peer c 0) (kAr 0), NA), (cell (peer c 1) (kAr 1), NA), (cell (peer c 2) (kAr 2), NA)]
/-- after the three units of the handshake. -/
def dues (c : Dev nD) : List (GSem nD τ sig × ℕ) :=
  (cell (peer c 0) kB, 1) :: (cell (peer c 1) kB, 1) :: (cell (peer c 2) kB, 1) :: duesL c

/-- A cell in the tallies of a list is in the list. -/
theorem owe_pos {l : List (GSem nD τ sig × ℕ)} {g : GSem nD τ sig} {u : Unit} (h : 0 < owe l g u) : ∃ x ∈ l, g = x.1 := by
  induction l with
  | nil => exact absurd h (Nat.lt_irrefl 0)
  | cons x l ih =>
    unfold owe at h
    rw [Pi.add_apply, Finsupp.add_apply, tallyAt_apply] at h
    by_cases hx : g = x.1 ∧ u = ()
    · exact ⟨x, List.mem_cons_self, hx.1⟩
    · rw [if_neg hx, Nat.add_zero] at h
      obtain ⟨y, hy, hg⟩ := ih h
      exact ⟨y, List.mem_cons_of_mem _ hy, hg⟩

def L (g : GSem nD τ sig) : Finset Unit := if g.1.2 = .tc then {()} else ∅
/-- The level of cell `k`: barriers 1, landings 2, everything else 0. -/
def lvK (k : ℕ) : ℕ := if k = 0 then 1 else if 9 ≤ k ∧ k < 15 ∨ 18 ≤ k ∧ k < 21 then 2 else 0
def lv (g : GSem nD τ sig) (_ : Unit) : ℕ := lvK (ix g.2)

theorem lv_cell (c : Dev nD) (k : Fin 21) : lv (cell c k) () = lvK k.val := by unfold lv; rw [ix_csem]

theorem L_of_ne (g : GSem nD τ sig) (h : g.1.2 ≠ .tc) : L g = ∅ := if_neg h
theorem L_tc (c : Dev nD) (sm : SemLoc sig) : L ((c : Thread nD τ), sm) = {()} := if_pos rfl

/-- Every payment of a list is to a cell of level above `b`. -/
def Above (b : ℕ) (l : List (GSem nD τ sig × ℕ)) : Prop := ∀ x ∈ l, x.1.1.2 = .tc ∧ b < lv x.1 ()

theorem above_dues (c : Dev nD) : Above 0 (dues c) := by
  intro x hx; simp only [dues, duesL, List.mem_cons, List.not_mem_nil, or_false] at hx
  rcases hx with rfl | rfl | rfl | rfl | rfl | rfl | rfl | rfl | rfl | rfl | rfl | rfl <;> exact ⟨rfl, by rw [lv_cell]; decide⟩
theorem above_duesL (c : Dev nD) : Above 1 (duesL c) := by
  intro x hx; simp only [duesL, List.mem_cons, List.not_mem_nil, or_false] at hx
  rcases hx with rfl | rfl | rfl | rfl | rfl | rfl | rfl | rfl | rfl <;> exact ⟨rfl, by rw [lv_cell]; decide⟩
theorem Above.drop {b : ℕ} {l : List (GSem nD τ sig × ℕ)} (h : Above b l) (n : ℕ) : Above b (l.drop n) :=
  fun x hx => h x (List.mem_of_mem_drop hx)
theorem Above.mono {b b' : ℕ} {l : List (GSem nD τ sig × ℕ)} (h : Above b l) (hb : b' ≤ b) : Above b' l :=
  fun x hx => ⟨(h x hx).1, Nat.lt_of_le_of_lt hb (h x hx).2⟩

omit [FloatOps F] in
/-- A wait on a semaphore whose level is below those of everything owed is allowed. -/
theorem mayWait (c : Dev nD) (sm : SemLoc sig) (b : ℕ) (hb : lvK (ix sm) ≤ b) (l : List (GSem nD τ sig × ℕ)) (hl : Above b l) :
    (levAts L lv : sProp 𝕄) ⊢ MayWait (c : Thread nD τ) sm () (owe l) :=
  MayOwe.of_cut (L := L) (lev := lv) b (fun p hp => by rw [Finset.mem_singleton.mp hp, L_tc]; exact Finset.mem_singleton_self _)
    (fun g u hg => by
      obtain ⟨x, hx, rfl⟩ := owe_pos hg
      unfold L; rw [if_pos (hl x hx).1]; exact Finset.mem_singleton_self _)
    (fun p hp => by rw [Finset.mem_singleton.mp hp]; exact hb)
    (fun g u hg => by obtain ⟨x, hx, rfl⟩ := owe_pos hg; exact (hl x hx).2)

end Cert.Exchange

end
-- ==== Proof.Steps.lean ====
/-
# The steps of the protocol

One rule for each kind of effect that crosses the exchange's cells: a unit of the handshake, the wait for it, a copy of a column
block of the weights and the wait for it, a transfer of a half or of a tile, and the wait for a send or a landing. Each is stated at
a symbolic device and slot, with the contents that change hands.
-/
module

public import proofs.«01_k».proof.Proof.Protocol

@[expose] public section

noncomputable section

namespace Cert.Exchange

open Cert.KernelIdeal Cert.KernelIdeal.Gen Cert.Own
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × Fin 21 → ℕ)

/-- The facts every device shares: the cells' invariants under the names they were allocated at, that every cell is at its
    first round, and the levels. -/
def recs : sProp 𝕄 :=
  iprop((bigSep Finset.univ fun ck : Dev nD × Fin 21 => cellInv ER (Rd m) (K ck) (cell ck.1 ck.2))
    ∗ (bigSep Finset.univ fun ck : Dev nD × Fin 21 => reached ER (cell ck.1 ck.2) 0) ∗ levAts L lv)

instance recs_persistent : BI.Persistent (recs (F := F) m K) := by unfold recs; infer_instance

theorem recs_inv (c : Dev nD) (k : Fin 21) : recs m K ⊢ cellInv ER (Rd m) (K (c, k)) (cell c k) := by
  unfold recs; iintro ⟨H, -, -⟩
  iapply (show (bigSep Finset.univ fun ck : Dev nD × Fin 21 => (cellInv ER (Rd m) (K ck) (cell ck.1 ck.2) : sProp 𝕄)) ⊢ cellInv ER (Rd m) (K (c, k)) (cell c k)
    from bigSep_elim (Finset.mem_univ (c, k))); iexact H
theorem recs_reached (c : Dev nD) (k : Fin 21) : recs m K ⊢ reached ER (cell c k) 0 := by
  unfold recs; iintro ⟨-, H, -⟩
  iapply (show (bigSep Finset.univ fun ck : Dev nD × Fin 21 => (reached ER (cell ck.1 ck.2) 0 : sProp 𝕄)) ⊢ reached ER (cell c k) 0
    from bigSep_elim (Finset.mem_univ (c, k))); iexact H
theorem recs_levs : recs m K ⊢ levAts L lv := by unfold recs; iintro ⟨-, -, H⟩; iexact H

/-- Device `c` owes the payments of the list `l`. -/
def owesL (c : Dev nD) (l : List (GSem nD τ sig × ℕ)) : sProp 𝕄 := iprop(∃ W, owes (c : Thread nD τ) (owe l) W)

/-- The wait of round `r` of cell `k` may be made: its credit, and that the device is at that round. -/
def ready (c : Dev nD) (k : Fin 21) (r : ℕ) : sProp 𝕄 := iprop(cred (tallyAt (cell c k) () (amt k.val)) ∗ atPos ER (cell c k) r ∅ 0)

/-- What a transfer of half `h` in slot `s` needs of the ghost state: the duties of its send and of its landing. -/
def yTok (c : Dev nD) (s : Fin 3) (h : Fin 2) : sProp 𝕄 :=
  iprop(atPos ER (cell c (kYs s h)) 0 ∅ 0 ∗ dutyTok ER (cell c (kYs s h)) 0 0 ∗ dutyTok ER (cell (peer c s) (kYr s h)) 0 0)
def aTok (c : Dev nD) (s : Fin 3) : sProp 𝕄 :=
  iprop(atPos ER (cell c (kAs s)) 0 ∅ 0 ∗ dutyTok ER (cell c (kAs s)) 0 0 ∗ dutyTok ER (cell (peer c s) (kAr s)) 0 0)
/-- The same for round `r` of staging slot `k`. -/
def wTok (c : Dev nD) (k : Fin 2) (r : ℕ) : sProp 𝕄 :=
  iprop(atPos ER (cell c (kW k)) r ∅ 0 ∗ reached ER (cell c (kW k)) r ∗ dutyTok ER (cell c (kW k)) r 0)

variable {α : Type} {Q : α → sProp (MT nD τ sig Unit (Elt F) ℕ UU ℕ)}

/-! ## The numbers of the cells -/

theorem ne_W : ∀ k : Fin 2, kW k ≠ 0 := by decide
theorem ne_Ys : ∀ (s : Fin 3) (h : Fin 2), kYs s h ≠ 0 := by decide
theorem ne_Yr : ∀ (s : Fin 3) (h : Fin 2), kYr s h ≠ 0 := by decide
theorem ne_As : ∀ s : Fin 3, kAs s ≠ 0 := by decide
theorem ne_Ar : ∀ s : Fin 3, kAr s ≠ 0 := by decide
theorem rounds_W : ∀ k : Fin 2, rounds (kW k).val = 2 := by decide
theorem rounds_Ys : ∀ (s : Fin 3) (h : Fin 2), rounds (kYs s h).val = 1 := by decide
theorem rounds_Yr : ∀ (s : Fin 3) (h : Fin 2), rounds (kYr s h).val = 1 := by decide
theorem rounds_As : ∀ s : Fin 3, rounds (kAs s).val = 1 := by decide
theorem rounds_Ar : ∀ s : Fin 3, rounds (kAr s).val = 1 := by decide
theorem lvK_W : ∀ k : Fin 2, lvK (kW k).val = 0 := by decide

/-! ## The handshake -/

/-- A unit of the handshake, to the device that slot `s` sends to: it hands over the landing places here of what that device sends. -/
theorem wp_handshake (c n : Dev nD) (s : Fin 3) (hn : n = peer c s) (l : List (GSem nD τ sig × ℕ))
    {k : PUnit → Prog (TpuEff nD τ sig (Elt F) Λ₀ .tc) α} :
    iprop(recs m K ∗ owesL c ((cell (peer c s) kB, 1) :: l) ∗ dutyTok ER (cell (peer c s) kB) 0 s.rev ∗ land c s.rev)
      ⊢ iprop((owesL c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((n, .tc) : Thread nD τ) barS (1#32).toInt) k) Q) := by
  subst hn
  unfold owesL
  iintro ⟨#HR, ⟨%W, HO⟩, Ht, Hl⟩ Hk
  iapply (Rounds.wp_signal 𝒱₀ ER (Rd m) (c : Thread nD τ) none (dst := ((peer c s : Dev nD) : Thread nD τ)) (sem := barS) (κ := K (peer c s, kB)) (r := 0)
      (d := s.rev) (by rw [show (((peer c s : Dev nD) : Thread nD τ), SemLoc.reg barS) = cell (peer c s) kB from rfl, duties_bar]; exact Finset.mem_univ _)
      (amount_eq m (peer c s) kB 0 s.rev) () (owe l) rfl) $$ [HO Ht Hl]
  · isplitr; · iapply (recs_inv m K (peer c s) kB); iexact HR
    isplitl [HO]; · iexact HO
    isplitl [Ht]; · iexact Ht
    isplitl [Hl]
    · rw [show (((peer c s : Dev nD) : Thread nD τ), SemLoc.reg barS) = cell (peer c s) kB from rfl, payload_eq, pay_bar, peer_rev]; iexact Hl
    · iapply (recs_reached m K (peer c s) kB); iexact HR
  iintro HO; iapply Hk; iexists W; iexact HO

/-- The wait for the three units: every peer has entered the kernel, and its landing places are this device's to write. -/
theorem wp_entered (c : Dev nD) {k : PUnit → Prog (TpuEff nD τ sig (Elt F) Λ₀ .tc) α} :
    iprop(recs m K ∗ owesL c (duesL c) ∗ cred (tallyAt (cell c kB) () 3) ∗ atPos ER (cell c kB) 0 ∅ 0)
      ⊢ iprop(((owesL c (duesL c) ∗ semVal (cell c kB) 0 ∗ land (peer c 0) 0 ∗ land (peer c 1) 1 ∗ land (peer c 2) 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (3#32).toInt) k) Q) := by
  unfold owesL
  iintro ⟨#HR, ⟨%W, HO⟩, Hc, Ha⟩ Hk
  iapply (Rounds.wp_wait_rest_token 𝒱₀ ER (Rd m) (c : Thread nD τ) none (sm := .reg barS) (κ := K (c, kB))
      (wpE_semWait_eq 𝒱₀ (c : Thread nD τ) none Set.univ) (Set.mem_univ _) () (O := owe (duesL c)) (W := W) (R := 0) (m := 0) (T := ∅)
      (by rw [show ((c : Thread nD τ), SemLoc.reg barS) = cell c kB from rfl, expect_bar]; decide)) $$ [HO Hc Ha]
  · isplitr; · iapply (recs_inv m K c kB); iexact HR
    isplitl [Hc]; · iexact Hc
    isplitl [HO]; · iexact HO
    isplitr
    · iapply (mayWait c (.reg barS) 1 (by decide) (duesL c) (above_duesL c)); iapply (recs_levs m K); iexact HR
    iexact Ha
  iintro ⟨HO, Ha, -, Hp⟩
  ihave Hp := (Entails.of_eq (show bigSep ((Rd (F := F) m).duties ((c : Thread nD τ), SemLoc.reg barS) 0 \ ∅)
      (fun d => (Rd (F := F) m).payload ((c : Thread nD τ), SemLoc.reg barS) 0 d) = _ from rest_bar m c)) $$ Hp
  imod (Rounds.cell_close ER (Rd m) (Set.mem_univ (K (c, kB))) (fun h => h) (R := 0 + 1) (duties_later m c kB 1 (by decide))) $$ [Ha] with Hz
  · isplitr; · iapply (recs_inv m K c kB); iexact HR
    iexact Ha
  iapply Hk
  isplitl [HO]; · iexists _; iexact HO
  isplitl [Hz]; · iexact Hz
  iexact Hp

/-! ## The waits on a device's own cells -/

/-- A wait of round `r` of one of the cells of one duty: what was handed over, and the next round. -/
theorem wp_wait_cell (c : Dev nD) (kk : Fin 21) (h0 : kk ≠ 0) (q : DmaSem sig) (hq : (.dma q : SemLoc sig) = csem kk) (r : ℕ) (hr : r < rounds kk.val)
    (l : List (GSem nD τ sig × ℕ)) (hl : Above (lvK kk.val) l)
    {sp sp' : Space} {s s' : Shape} {e e' : EltTy} {src : Memref sig .tc sp' s' e'} {dst : Memref sig .tc sp s e}
    {hsrc : src.view.WordExact} {hdst : dst.view.WordExact} (hN : dst.view.dmaCredit = amt kk.val)
    {k : PUnit → Prog (TpuEff nD τ sig (Elt F) Λ₀ .tc) α} :
    iprop(recs m K ∗ owesL c l ∗ ready c kk r)
      ⊢ iprop(((owesL c l ∗ atPos ER (cell c kk) (r + 1) ∅ 0 ∗ reached ER (cell c kk) (r + 1) ∗ pay m c kk.val r 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  have hc : ((c : Thread nD τ), (.dma q : SemLoc sig)) = cell c kk := by rw [hq]
  have hrest := rest_one m c kk h0 r hr
  have hexp := expect_one m c kk h0 r hr
  have hinv := recs_inv m K c kk
  have hmw := (recs_levs m K).trans (mayWait (F := F) c (.dma q) (lvK kk.val) (by rw [hq, ix_csem]) l hl)
  unfold owesL ready
  rw [← hN]
  rw [← hc] at hrest hexp hinv ⊢
  iintro ⟨#HR, ⟨%W, HO⟩, Hc, Ha⟩ Hk
  iapply (Rounds.wp_wait_rest_token 𝒱₀ ER (Rd m) (c : Thread nD τ) none (sm := .dma q) (κ := K (c, kk))
      (wpE_waitDma2_eq 𝒱₀ (c : Thread nD τ) none Set.univ) (Set.mem_univ _) () (O := owe l) (W := W) (R := r) (m := 0) (T := ∅)
      (by rw [Nat.zero_add, hexp, hN])) $$ [HO Hc Ha]
  · isplitr; · iapply hinv; iexact HR
    isplitl [Hc]; · iexact Hc
    isplitl [HO]; · iexact HO
    isplitr; · iapply hmw; iexact HR
    iexact Ha
  iintro ⟨HO, Ha, Hr, Hp⟩
  ihave Hp := (Entails.of_eq hrest) $$ Hp
  iapply Hk
  isplitl [HO]; · iexists _; iexact HO
  isplitl [Ha]; · iexact Ha
  isplitl [Hr]; · iexact Hr
  iexact Hp

/-- A cell whose rounds are over gives its counter back, at zero. -/
theorem close_cell (c : Dev nD) (kk : Fin 21) (R : ℕ) (hR : rounds kk.val ≤ R) :
    iprop(recs m K ∗ atPos ER (cell c kk) R ∅ 0) ⊢ iprop(|={Set.univ}=> semVal (cell c kk) 0) := by
  iintro ⟨HR, Ha⟩
  iapply (Rounds.cell_close ER (Rd m) (Set.mem_univ (K (c, kk))) (fun h => h) (R := R) (duties_later m c kk R hR))
  isplitl [HR]; · iapply (recs_inv m K c kk); iexact HR
  iexact Ha

/-- The one wait of a cell of a single round, owing nothing: what was handed over, and the counter back at zero. -/
theorem wp_wait_last (c : Dev nD) (kk : Fin 21) (h0 : kk ≠ 0) (q : DmaSem sig) (hq : (.dma q : SemLoc sig) = csem kk) (hr : rounds kk.val = 1)
    {P : sProp 𝕄} (hP : pay m c kk.val 0 0 = P)
    {sp sp' : Space} {s s' : Shape} {e e' : EltTy} {src : Memref sig .tc sp' s' e'} {dst : Memref sig .tc sp s e}
    {hsrc : src.view.WordExact} {hdst : dst.view.WordExact} (hN : dst.view.dmaCredit = amt kk.val)
    {k : PUnit → Prog (TpuEff nD τ sig (Elt F) Λ₀ .tc) α} :
    iprop(recs m K ∗ owesL c [] ∗ ready c kk 0)
      ⊢ iprop(((owesL c [] ∗ semVal (cell c kk) 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hP
  iintro ⟨#HR, HO, Hy⟩ Hk
  iapply (wp_wait_cell m K c kk h0 q hq 0 (by omega) [] (fun _ h => absurd h List.not_mem_nil) hN) $$ [HO Hy]
  · isplitr; · iexact HR
    isplitl [HO] <;> iassumption
  iintro ⟨HO, Ha, -, Hp⟩
  imod (close_cell m K c kk (0 + 1) (by omega)) $$ [Ha] with Hz
  · isplitr; · iexact HR
    iexact Ha
  iapply Hk
  isplitl [HO]; · iexact HO
  isplitl [Hz] <;> iassumption

theorem wp_wait_ys (c : Dev nD) (s : Fin 3) (h : Fin 2) {sp' : Space} {s' : Shape} {e' : EltTy} {src : Memref sig .tc sp' s' e'}
    {dst : Memref sig .tc .vmem S512x512 .bf16}
    {hsrc : src.view.WordExact} {hdst : dst.view.WordExact} {k : PUnit → Prog (TpuEff nD τ sig (Elt F) Λ₀ .tc) α} :
    iprop(recs m K ∗ owesL c [] ∗ ready c (kYs s h) 0)
      ⊢ iprop(((owesL c [] ∗ semVal (cell c (kYs s h)) 0 ∗ ysPay m c s h) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (ysS s h) src dst hsrc hdst) k) Q) :=
  wp_wait_last m K c (kYs s h) (ne_Ys s h) _ (csem_Ys s h) (rounds_Ys s h) (pay_Ys m c s h 0 0) (by rw [amt_Ys]; rfl)
theorem wp_wait_yr (c : Dev nD) (s : Fin 3) (h : Fin 2) {sp' : Space} {s' : Shape} {e' : EltTy} {src : Memref sig .tc sp' s' e'}
    {dst : Memref sig .tc .vmem S512x512 .bf16}
    {hsrc : src.view.WordExact} {hdst : dst.view.WordExact} {k : PUnit → Prog (TpuEff nD τ sig (Elt F) Λ₀ .tc) α} :
    iprop(recs m K ∗ owesL c [] ∗ ready c (kYr s h) 0)
      ⊢ iprop(((owesL c [] ∗ semVal (cell c (kYr s h)) 0 ∗ yrPay m c s h) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (yrS s h) src dst hsrc hdst) k) Q) :=
  wp_wait_last m K c (kYr s h) (ne_Yr s h) _ (csem_Yr s h) (rounds_Yr s h) (pay_Yr m c s h 0 0) (by rw [amt_Yr]; rfl)
theorem wp_wait_as (c : Dev nD) (s : Fin 3) {sp' : Space} {s' : Shape} {e' : EltTy} {src : Memref sig .tc sp' s' e'}
    {dst : Memref sig .tc .vmem S8x128 .f32}
    {hsrc : src.view.WordExact} {hdst : dst.view.WordExact} {k : PUnit → Prog (TpuEff nD τ sig (Elt F) Λ₀ .tc) α} :
    iprop(recs m K ∗ owesL c [] ∗ ready c (kAs s) 0)
      ⊢ iprop(((owesL c [] ∗ semVal (cell c (kAs s)) 0 ∗ asPay m c s) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (asS s) src dst hsrc hdst) k) Q) :=
  wp_wait_last m K c (kAs s) (ne_As s) _ (csem_As s) (rounds_As s) (pay_As m c s 0 0) (by rw [amt_As]; rfl)
theorem wp_wait_ar (c : Dev nD) (s : Fin 3) {sp' : Space} {s' : Shape} {e' : EltTy} {src : Memref sig .tc sp' s' e'}
    {dst : Memref sig .tc .vmem S8x128 .f32}
    {hsrc : src.view.WordExact} {hdst : dst.view.WordExact} {k : PUnit → Prog (TpuEff nD τ sig (Elt F) Λ₀ .tc) α} :
    iprop(recs m K ∗ owesL c [] ∗ ready c (kAr s) 0)
      ⊢ iprop(((owesL c [] ∗ semVal (cell c (kAr s)) 0 ∗ arPay m c s) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (arS s) src dst hsrc hdst) k) Q) :=
  wp_wait_last m K c (kAr s) (ne_Ar s) _ (csem_Ar s) (rounds_Ar s) (pay_Ar m c s 0 0) (by rw [amt_Ar]; rfl)

/-- The wait for round `r` of staging slot `k`: the columns of the block copied, and the share of the weights read. -/
theorem wp_wait_w (c : Dev nD) (kk : Fin 2) (r : ℕ) (hr : r < 2) (j : Fin 4) (hj : jw kk r = j) (l : List (GSem nD τ sig × ℕ)) (hl : Above 0 l)
    {sp' : Space} {s' : Shape} {e' : EltTy} {src : Memref sig .tc sp' s' e'} {dst : Memref sig .tc .vmem S4096x512 .f32}
    {hsrc : src.view.WordExact} {hdst : dst.view.WordExact} {k : PUnit → Prog (TpuEff nD τ sig (Elt F) Λ₀ .tc) α} :
    iprop(recs m K ∗ owesL c l ∗ ready c (kW kk) r)
      ⊢ iprop(((owesL c l ∗ atPos ER (cell c (kW kk)) (r + 1) ∅ 0 ∗ reached ER (cell c (kW kk)) (r + 1) ∗ wPay m c kk j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (wS kk) src dst hsrc hdst) k) Q) := by
  subst hj
  have h := wp_wait_cell (Q := Q) (src := src) (dst := dst) (hsrc := hsrc) (hdst := hdst) (k := k) m K c (kW kk) (ne_W kk) _ (csem_W kk) r
    (Nat.lt_of_lt_of_eq hr (rounds_W kk).symm) l (by rw [lvK_W]; exact hl) (by rw [amt_W]; rfl)
  rw [pay_W] at h; exact h

/-! ## The transfers -/

/-- A transfer stated over what is owned: the landing hands over the destination at the source's contents. -/
theorem wp_send_owns (c n : Dev nD) (k₁ k₂ : Fin 21) (h₁ : k₁ ≠ 0) (h₂ : k₂ ≠ 0) (hr₁ : rounds k₁.val = 1) (hr₂ : rounds k₂.val = 1)
    (q₁ q₂ : DmaSem sig) (hq₁ : (.dma q₁ : SemLoc sig) = csem k₁) (hq₂ : (.dma q₂ : SemLoc sig) = csem k₂)
    {sp sp' : Space} {s : Shape} {e : EltTy} {src : Memref sig .tc sp s e} {dst : Memref sig (Dev.tc n : Thread nD τ).2.kind sp' s e}
    {hsc : dst.view.ref.isScScratch = false} {hsrc : src.view.WordExact} {hdst : dst.view.WordExact}
    {hsem : DmaTarget.Typed sp (.dma q₂) (.remote (Dev.tc n : Thread nD τ) dst (.dma q₁) hsc)}
    (N : ℕ) (hN : dst.view.amount (.dma q₂) = N) (ha₁ : amt k₁.val = N) (ha₂ : amt k₂.val = N)
    {q : PosShare TreeShare} {X Z : s.Idx → Elt F e} (l : List (GSem nD τ sig × ℕ))
    (hp₁ : owns (c : Thread nD τ) src q X ⊢ pay m c k₁.val 0 0) (hp₂ : owns (n : Thread nD τ) dst fullShare X ⊢ pay m n k₂.val 0 0)
    {k : PUnit → Prog (TpuEff nD τ sig (Elt F) Λ₀ .tc) α} :
    iprop(recs m K ∗ owns (c : Thread nD τ) src q X ∗ owns (n : Thread nD τ) dst fullShare Z ∗ owesL c ((cell n k₂, N) :: l)
        ∗ atPos ER (cell c k₁) 0 ∅ 0 ∗ dutyTok ER (cell c k₁) 0 0 ∗ dutyTok ER (cell n k₂) 0 0)
      ⊢ iprop(((owesL c l ∗ ready c k₁ 0) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma q₁) hsc) (.dma q₂) hsrc hdst hsem) k) Q) := by
  have hc₁ : ((c : Thread nD τ), (.dma q₁ : SemLoc sig)) = cell c k₁ := by rw [hq₁]
  have hc₂ : ((n : Thread nD τ), (.dma q₂ : SemLoc sig)) = cell n k₂ := by rw [hq₂]
  have hd₁ := duties_one m c k₁ h₁ 0 (by omega)
  have hd₂ := duties_one m n k₂ h₂ 0 (by omega)
  have hm₁ := amount_eq m c k₁ 0 0
  have hm₂ := amount_eq m n k₂ 0 0
  have hi₁ := recs_inv m K c k₁
  have hi₂ := recs_inv m K n k₂
  have hr₁ := recs_reached m K c k₁
  have hr₂ := recs_reached m K n k₂
  rw [← payload_eq] at hp₁ hp₂
  unfold owesL ready
  rw [ha₁]
  rw [← hc₁] at hd₁ hm₁ hi₁ hr₁ hp₁ ⊢
  rw [← hc₂] at hd₂ hm₂ hi₂ hr₂ hp₂ ⊢
  iintro ⟨#HR, Hs, Hd, ⟨%W, HO⟩, Ha, Ht₁, Ht₂⟩ Hk
  ihave Hs := (owns_open (c : Thread nD τ) src q X) $$ Hs
  icases Hs with ⟨%fs, %hfs, Hs⟩
  ihave Hd := (owns_open (n : Thread nD τ) dst fullShare Z) $$ Hd
  icases Hd with ⟨%fd, -, Hd⟩
  iapply (Rounds.wp_send_pointsTo 𝒱₀ ER (Rd m) (c : Thread nD τ) none (κ₁ := K (c, k₁)) (κ₂ := K (n, k₂)) (fd := fd) (fs := fs) (q := q)
    (r₁ := 0) (r₂ := 0) (d₁ := 0) (d₂ := 0) (by rw [hd₁]; exact Finset.mem_singleton_self _) (by rw [hd₂]; exact Finset.mem_singleton_self _)
    () () N hN (hm₁.trans ha₁) (hm₂.trans ha₂) (owe l) rfl (W := W) ((owns_close (c : Thread nD τ) src q hfs).trans hp₁)
    ((owns_landed (c : Thread nD τ) src dst hfs).trans hp₂)) $$ [Hs Hd HO Ht₁ Ht₂]
  · isplitr; · iapply hi₁; iexact HR
    isplitr; · iapply hi₂; iexact HR
    isplitl [Hs]; · iexact Hs
    isplitl [Hd]; · iexact Hd
    isplitl [HO]; · iexact HO
    isplitl [Ht₁]; · iexact Ht₁
    isplitr; · iapply hr₁; iexact HR
    isplitl [Ht₂]; · iexact Ht₂
    iapply hr₂; iexact HR
  iintro ⟨Hc, HO⟩
  iapply Hk
  isplitl [HO]; · iexists W; iexact HO
  isplitl [Hc] <;> iassumption

/-- The transfer of half `h` of the block of slot `s`. -/
theorem wp_send_y (c n : Dev nD) (s : Fin 3) (h : Fin 2) (hn : n = peer c s) (l : List (GSem nD τ sig × ℕ))
    {hsc : (rQ s h : Memref sig (Dev.tc n : Thread nD τ).2.kind .vmem S512x512 .bf16).view.ref.isScScratch = false}
    {hsrc : (yQ (blkOf s) h).view.WordExact} {hdst : (rQ s h : Memref sig (Dev.tc n : Thread nD τ).2.kind .vmem S512x512 .bf16).view.WordExact}
    {hsem : DmaTarget.Typed .vmem (.dma (yrS s h)) (.remote (Dev.tc n : Thread nD τ) (rQ s h) (.dma (ysS s h)) hsc)}
    {k : PUnit → Prog (TpuEff nD τ sig (Elt F) Λ₀ .tc) α} :
    iprop(recs m K ∗ ownsTc c (yP (blkOf s) h) fullShare (Y m c (blkOf s) h) ∗ (∃ Z, ownsTc (peer c s) (rP s h) fullShare Z)
        ∗ owesL c ((cell (peer c s) (kYr s h), NY) :: l) ∗ yTok c s h)
      ⊢ iprop(((owesL c l ∗ ready c (kYs s h) 0) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (yQ (blkOf s) h) (.remote (Dev.tc n : Thread nD τ) (rQ s h) (.dma (ysS s h)) hsc) (.dma (yrS s h)) hsrc hdst hsem) k) Q) := by
  subst hn
  unfold yTok
  iintro ⟨#HR, Hs, ⟨%Z, Hd⟩, HO, Ht⟩ Hk
  ihave Hs := (Entails.of_eq (owns_squeeze (c : Thread nD τ) (yP (blkOf s) h) squeezes_S1x512x512_S512x512 fullShare _).symm) $$ Hs
  ihave Hd := (Entails.of_eq (owns_squeeze ((peer c s : Dev nD) : Thread nD τ) (rP s h) squeezes_S1x512x512_S512x512 fullShare _).symm) $$ Hd
  have e1 : owns (c : Thread nD τ) (yQ (blkOf s) h) fullShare (fun i => Y m c (blkOf s) h (Shape.reshapeEquiv squeezes_S1x512x512_S512x512.numel_eq i)) ⊢ pay m c (kYs s h).val 0 0 := by
    rw [pay_Ys, ysPay]
    exact Entails.of_eq (owns_squeeze (Val := Elt F) (c : Thread nD τ) (yP (blkOf s) h) squeezes_S1x512x512_S512x512 fullShare (Y m c (blkOf s) h))
  have e2 : owns ((peer c s : Dev nD) : Thread nD τ) (rQ s h) fullShare (fun i => Y m c (blkOf s) h (Shape.reshapeEquiv squeezes_S1x512x512_S512x512.numel_eq i)) ⊢ pay m (peer c s) (kYr s h).val 0 0 := by
    rw [pay_Yr, yrPay, src_peer]
    exact Entails.of_eq (owns_squeeze (Val := Elt F) ((peer c s : Dev nD) : Thread nD τ) (rP s h) squeezes_S1x512x512_S512x512 fullShare (Y m c (blkOf s) h))
  have hN : (rQ s h : Memref sig (Dev.tc (peer c s) : Thread nD τ).2.kind .vmem S512x512 .bf16).view.amount (.dma (yrS s h)) = NY := rfl
  have e3 := wp_send_owns (Q := Q) (k := k) (hsc := hsc) (hsrc := hsrc) (hdst := hdst) (hsem := hsem) m K c (peer c s) (kYs s h) (kYr s h) (ne_Ys s h) (ne_Yr s h) (rounds_Ys s h) (rounds_Yr s h) (ysS s h) (yrS s h) (csem_Ys s h) (csem_Yr s h) NY hN (amt_Ys s h) (amt_Yr s h)
    (q := fullShare) (X := (fun i => Y m c (blkOf s) h (Shape.reshapeEquiv squeezes_S1x512x512_S512x512.numel_eq i)))
    (Z := (fun i => Z (Shape.reshapeEquiv squeezes_S1x512x512_S512x512.numel_eq i))) l e1 e2
  iapply e3 $$ [Hs Hd HO Ht]
  · isplitr; · iexact HR
    isplitl [Hs]; · iexact Hs
    isplitl [Hd]; · iexact Hd
    isplitl [HO] <;> iassumption
  iexact Hk

/-- The transfer of the tile of the magnitudes in slot `s`. -/
theorem wp_send_a (c n : Dev nD) (s : Fin 3) (hn : n = peer c s) (l : List (GSem nD τ sig × ℕ))
    {hsc : (aQ s.succ : Memref sig (Dev.tc n : Thread nD τ).2.kind .vmem S8x128 .f32).view.ref.isScScratch = false}
    {hsrc : (sM : Memref sig .tc .vmem S8x128 .f32).view.WordExact} {hdst : (aQ s.succ : Memref sig (Dev.tc n : Thread nD τ).2.kind .vmem S8x128 .f32).view.WordExact}
    {hsem : DmaTarget.Typed .vmem (.dma (arS s)) (.remote (Dev.tc n : Thread nD τ) (aQ s.succ) (.dma (asS s)) hsc)}
    {k : PUnit → Prog (TpuEff nD τ sig (Elt F) Λ₀ .tc) α} :
    iprop(recs m K ∗ ownsTc c sM (aq s) (amT m c) ∗ (∃ Z, ownsTc (peer c s) (aP s.succ) fullShare Z)
        ∗ owesL c ((cell (peer c s) (kAr s), NA) :: l) ∗ aTok c s)
      ⊢ iprop(((owesL c l ∗ ready c (kAs s) 0) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc n : Thread nD τ) (aQ s.succ) (.dma (asS s)) hsc) (.dma (arS s)) hsrc hdst hsem) k) Q) := by
  subst hn
  unfold aTok
  iintro ⟨#HR, Hs, ⟨%Z, Hd⟩, HO, Ht⟩ Hk
  ihave Hd := (Entails.of_eq (owns_squeeze ((peer c s : Dev nD) : Thread nD τ) (aP s.succ) squeezes_S1x8x128_S8x128 fullShare _).symm) $$ Hd
  have e1 : owns (c : Thread nD τ) sM (aq s) (amT m c) ⊢ pay m c (kAs s).val 0 0 := Entails.of_eq (pay_As m c s 0 0).symm
  have e2 : owns ((peer c s : Dev nD) : Thread nD τ) (aQ s.succ) fullShare (amT m c) ⊢ pay m (peer c s) (kAr s).val 0 0 := by
    rw [pay_Ar, arPay, src_peer]
    have h2 := owns_squeeze (Ix := Unit) (Val := Elt F) (Name := ℕ) (U := UU) (Lvl := ℕ) ((peer c s : Dev nD) : Thread nD τ) (aP s.succ)
      squeezes_S1x8x128_S8x128 fullShare (fun _ => am m c)
    exact Entails.of_eq h2
  have hN : (aQ s.succ : Memref sig (Dev.tc (peer c s) : Thread nD τ).2.kind .vmem S8x128 .f32).view.amount (.dma (arS s)) = NA := rfl
  have e3 := wp_send_owns (Q := Q) (k := k) (hsc := hsc) (hsrc := hsrc) (hdst := hdst) (hsem := hsem) m K c (peer c s) (kAs s) (kAr s) (ne_As s) (ne_Ar s)
    (rounds_As s) (rounds_Ar s) (asS s) (arS s) (csem_As s) (csem_Ar s) NA hN (amt_As s) (amt_Ar s)
    (q := aq s) (X := amT m c) (Z := (fun i => Z (Shape.reshapeEquiv squeezes_S1x8x128_S8x128.numel_eq i))) l e1 e2
  iapply e3 $$ [Hs Hd HO Ht]
  · isplitr; · iexact HR
    isplitl [Hs]; · iexact Hs
    isplitl [Hd]; · iexact Hd
    isplitl [HO] <;> iassumption
  iexact Hk

/-- The copy of the columns of block `j` into staging slot `k`. -/
theorem wp_copy_w (c : Dev nD) (kk : Fin 2) (r : ℕ) (hr : r < 2) (j : Fin 4) (hj : jw kk r = j)
    {hsrc : (gP c j).view.WordExact} {hdst : (wQ kk).view.WordExact} {hsem : DmaTarget.Typed (nD := nD) (τ := τ) (p := .tc) .hbm (.dma (wS kk)) (.here (wQ kk))}
    {k : PUnit → Prog (TpuEff nD τ sig (Elt F) Λ₀ .tc) α} :
    iprop(recs m K ∗ gShare m c kk j ∗ (∃ Z, ownsTc c (wP kk) fullShare Z) ∗ wTok c kk r)
      ⊢ iprop((ready c (kW kk) r -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (gP c j) (.here (wQ kk)) (.dma (wS kk)) hsrc hdst hsem) k) Q) := by
  subst hj
  have hc : ((c : Thread nD τ), (.dma (wS kk) : SemLoc sig)) = cell c (kW kk) := by rw [csem_W]
  have h0 := ne_W kk
  have hd := duties_one m c (kW kk) h0 r (Nat.lt_of_lt_of_eq hr (rounds_W kk).symm)
  have hm := (amount_eq m c (kW kk) r 0).trans (amt_W kk)
  have hi := recs_inv m K c (kW kk)
  have hp := payload_eq m c (kW kk) r 0
  rw [pay_W] at hp
  unfold ready wTok
  rw [amt_W]
  rw [← hc] at hd hm hi hp ⊢
  iintro ⟨#HR, Hg, ⟨%Z, Hd⟩, Ha, Hr, Ht⟩ Hk
  ihave Hd := (Entails.of_eq (owns_squeeze (c : Thread nD τ) (wP kk) squeezes_S1x4096x512_S4096x512 fullShare Z).symm) $$ Hd
  ihave Hd := (owns_open (c : Thread nD τ) (wQ kk) fullShare _) $$ Hd
  icases Hd with ⟨%fd, -, Hd⟩
  have hpay : iprop(((wQ kk).view.loc (c : Thread nD τ) ↦[(wQ kk).view.set]{fullShare}
        ((wQ kk).view.write (Elt F) fd ((gP c (jw kk r)).view.read (Elt F) (m ((c : Thread nD τ).loc main_arg1))) Finset.univ))
      ∗ ((gP c (jw kk r)).view.loc (c : Thread nD τ) ↦[(gP c (jw kk r)).view.set]{gq kk} m ((c : Thread nD τ).loc main_arg1)))
      ⊢ (Rd m).payload ((c : Thread nD τ), .dma (wS kk)) r 0 := by
    rw [hp]; unfold wPay gShare
    have h1 := owns_landed (Ix := Unit) (Name := ℕ) (U := UU) (Lvl := ℕ) (X := wcol m c (jw kk r)) (c := (c : Thread nD τ)) (c' := (c : Thread nD τ))
      (gP c (jw kk r)) (wQ kk) (fs := m ((c : Thread nD τ).loc main_arg1)) (fd := fd) rfl
    have h2 := owns_squeeze (Ix := Unit) (Name := ℕ) (U := UU) (Lvl := ℕ) (c : Thread nD τ) (wP kk) squeezes_S1x4096x512_S4096x512 fullShare (wb m c (jw kk r))
    rw [show (fun i => wb m c (jw kk r) (Shape.reshapeEquiv squeezes_S1x4096x512_S4096x512.numel_eq i)) = wcol m c (jw kk r) from
      funext fun i => by unfold wb; rw [Equiv.symm_apply_apply]] at h2
    exact sep_mono_left (h1.trans (Entails.of_eq h2))
  have hN : (wQ kk).view.amount (.dma (wS kk)) = NW := rfl
  iapply (Rounds.wp_copy_pointsTo (Q := Q) (k := k) (hsrc := hsrc) (hdst := hdst) (hsem := hsem) 𝒱₀ ER (Rd m) (c : Thread nD τ) none (κ := K (c, kW kk)) (q := gq kk) (fs := m ((c : Thread nD τ).loc main_arg1)) (fd := fd)
    (r := r) (d := 0) (by rw [hd]; exact Finset.mem_singleton_self _) () NW hN hm hpay) $$ [Hg Hd Ht Hr]
  · isplitr; · iapply hi; iexact HR
    isplitl [Hg]; · unfold gShare; iexact Hg
    isplitl [Hd]; · iexact Hd
    isplitl [Ht] <;> iassumption
  iintro Hc
  iapply Hk
  isplitl [Hc] <;> iassumption

end Cert.Exchange

end
-- ==== Proof.Pieces.lean ====
/-
# The scratch buffers, in pieces

The buffers of the blocks, of the landings, of the magnitudes and of the weights' columns, each owned whole or piece by
piece; the loads that read several pieces at once; and the share of the weights that each copy reads.
-/
module

public import proofs.«01_k».proof.Proof.Steps

@[expose] public section

noncomputable section

namespace Cert.Exchange

open Cert.KernelIdeal Cert.KernelIdeal.Gen Cert.Own
open Idealize.ShloMosaic
open Idealize.ShloMosaic.TcCoe
open Idealize.SL Idealize.SL.RA
open scoped Idealize.SL.BI
open Idealize.SL.BI (sProp bigSep)
open Idealize.SL.BI.BIBase Idealize.SL.BI.Laws Idealize.SL.ProofMode Idealize.SL.Sem

variable {F : FTy → Type} [FloatOps F]
local notation "𝕄" => MT nD τ sig Unit (Elt F) ℕ UU ℕ
variable (m : (ℓ : Loc nD τ sig) → Buf (Elt F) ℓ)

/-! ## The pieces of a buffer are disjoint and cover it -/

theorem yR_disjoint (t t' : Fin 4 × Fin 2) (h : t ≠ t') : Disjoint (yR t.1 t.2).set (yR t'.1 t'.2).set := by
  obtain ⟨j, p⟩ := t; obtain ⟨j', p'⟩ := t'
  by_cases hj : j = j'
  · subst hj
    have hp : p.val ≠ p'.val := fun e => h (by rw [Fin.ext e])
    refine Rect.unit_disjoint 1 ?_
    show 512 * p.val + 512 ≤ 512 * p'.val ∨ 512 * p'.val + 512 ≤ 512 * p.val
    omega
  · have hj' : j.val ≠ j'.val := fun e => hj (Fin.ext e)
    refine Rect.unit_disjoint 0 ?_
    show j.val + 1 ≤ j'.val ∨ j'.val + 1 ≤ j.val
    omega

theorem yR_cover : (Finset.univ : Finset (Fin 4 × Fin 2)).biUnion (fun t => (yR t.1 t.2).set) = Finset.univ := by
  ext i
  simp only [Finset.mem_biUnion, Finset.mem_univ, true_and, iff_true]
  have h0 : (i 0).val < 4 := (i 0).isLt
  have h1 : (i 1).val < 1024 := (i 1).isLt
  have h2 : (i 2).val < 512 := (i 2).isLt
  refine ⟨(⟨(i 0).val, h0⟩, ⟨(i 1).val / 512, by omega⟩), Rect.mem_set_unit.mpr fun a => ?_⟩
  match a with
  | 0 => exact ⟨Nat.le_refl _, Nat.lt_succ_self _⟩
  | 1 => show 512 * ((i 1).val / 512) ≤ (i 1).val ∧ (i 1).val < 512 * ((i 1).val / 512) + 512
         omega
  | 2 => exact ⟨Nat.zero_le _, by show (i 2).val < 0 + 512; omega⟩

theorem rR_disjoint (t t' : Fin 3 × Fin 2) (h : t ≠ t') : Disjoint (rR t.1 t.2).set (rR t'.1 t'.2).set := by
  obtain ⟨j, p⟩ := t; obtain ⟨j', p'⟩ := t'
  by_cases hj : j = j'
  · subst hj
    have hp : p.val ≠ p'.val := fun e => h (by rw [Fin.ext e])
    refine Rect.unit_disjoint 1 ?_
    show 512 * p.val + 512 ≤ 512 * p'.val ∨ 512 * p'.val + 512 ≤ 512 * p.val
    omega
  · have hj' : j.val ≠ j'.val := fun e => hj (Fin.ext e)
    refine Rect.unit_disjoint 0 ?_
    show j.val + 1 ≤ j'.val ∨ j'.val + 1 ≤ j.val
    omega

theorem rR_cover : (Finset.univ : Finset (Fin 3 × Fin 2)).biUnion (fun t => (rR t.1 t.2).set) = Finset.univ := by
  ext i
  simp only [Finset.mem_biUnion, Finset.mem_univ, true_and, iff_true]
  have h0 : (i 0).val < 3 := (i 0).isLt
  have h1 : (i 1).val < 1024 := (i 1).isLt
  have h2 : (i 2).val < 512 := (i 2).isLt
  refine ⟨(⟨(i 0).val, h0⟩, ⟨(i 1).val / 512, by omega⟩), Rect.mem_set_unit.mpr fun a => ?_⟩
  match a with
  | 0 => exact ⟨Nat.le_refl _, Nat.lt_succ_self _⟩
  | 1 => show 512 * ((i 1).val / 512) ≤ (i 1).val ∧ (i 1).val < 512 * ((i 1).val / 512) + 512
         omega
  | 2 => exact ⟨Nat.zero_le _, by show (i 2).val < 0 + 512; omega⟩

theorem aR_disjoint (t t' : Fin 4) (h : t ≠ t') : Disjoint (aR t).set (aR t').set := by
  have hj' : t.val ≠ t'.val := fun e => h (Fin.ext e)
  refine Rect.unit_disjoint 0 ?_
  show t.val + 1 ≤ t'.val ∨ t'.val + 1 ≤ t.val
  omega

theorem aR_cover : (Finset.univ : Finset (Fin 4)).biUnion (fun t => (aR t).set) = Finset.univ := by
  ext i
  simp only [Finset.mem_biUnion, Finset.mem_univ, true_and, iff_true]
  have h0 : (i 0).val < 4 := (i 0).isLt
  have h1 : (i 1).val < 8 := (i 1).isLt
  have h2 : (i 2).val < 128 := (i 2).isLt
  refine ⟨⟨(i 0).val, h0⟩, Rect.mem_set_unit.mpr fun a => ?_⟩
  match a with
  | 0 => exact ⟨Nat.le_refl _, Nat.lt_succ_self _⟩
  | 1 => exact ⟨Nat.zero_le _, by show (i 1).val < 0 + 8; omega⟩
  | 2 => exact ⟨Nat.zero_le _, by show (i 2).val < 0 + 128; omega⟩

theorem wR_disjoint (t t' : Fin 2) (h : t ≠ t') : Disjoint (wR t).set (wR t').set := by
  have hj' : t.val ≠ t'.val := fun e => h (Fin.ext e)
  refine Rect.unit_disjoint 0 ?_
  show t.val + 1 ≤ t'.val ∨ t'.val + 1 ≤ t.val
  omega

theorem wR_cover : (Finset.univ : Finset (Fin 2)).biUnion (fun t => (wR t).set) = Finset.univ := by
  ext i
  simp only [Finset.mem_biUnion, Finset.mem_univ, true_and, iff_true]
  have h0 : (i 0).val < 2 := (i 0).isLt
  have h1 : (i 1).val < 4096 := (i 1).isLt
  have h2 : (i 2).val < 512 := (i 2).isLt
  refine ⟨⟨(i 0).val, h0⟩, Rect.mem_set_unit.mpr fun a => ?_⟩
  match a with
  | 0 => exact ⟨Nat.le_refl _, Nat.lt_succ_self _⟩
  | 1 => exact ⟨Nat.zero_le _, by show (i 1).val < 0 + 4096; omega⟩
  | 2 => exact ⟨Nat.zero_le _, by show (i 2).val < 0 + 512; omega⟩

/-! ## Whole and in pieces -/

/-- Device `c` owns `m` at some contents. -/
abbrev any (c : Dev nD) {sp : Space} {s : Shape} {e : EltTy} (M : Memref sig .tc sp s e) : sProp 𝕄 := iprop(∃ X, ownsTc c M fullShare X)

/-- The eight halves of the four blocks. -/
abbrev yAll (c : Dev nD) : sProp 𝕄 :=
  iprop(any c (yP 0 0) ∗ any c (yP 0 1) ∗ any c (yP 1 0) ∗ any c (yP 1 1) ∗ any c (yP 2 0) ∗ any c (yP 2 1) ∗ any c (yP 3 0) ∗ any c (yP 3 1))

theorem y_pieces (c : Dev nD) :
    bigSep Finset.univ (fun t : Fin 4 × Fin 2 => (any c (yP t.1 t.2) : sProp 𝕄)) = yAll c := by
  rw [BI.bigSep_univ_eq_bigSepL [(0,0),(0,1),(1,0),(1,1),(2,0),(2,1),(3,0),(3,1)] (by decide) (by decide)]; rfl

theorem y_split (c : Dev nD) : (any c yM : sProp 𝕄) ⊢ yAll c := by
  rw [← y_pieces]
  exact owns_shatter (c : Thread nD τ) yM fullShare (fun t : Fin 4 × Fin 2 => yR t.1 t.2) (fun _ _ => rfl) yR_disjoint yR_cover

theorem y_join (c : Dev nD) : (yAll c : sProp 𝕄) ⊢ any c yM := by
  rw [← y_pieces]
  exact owns_glue (c : Thread nD τ) yM fullShare (fun t : Fin 4 × Fin 2 => yR t.1 t.2) (fun _ _ => rfl) yR_disjoint yR_cover

/-- The six halves of the three slots. -/
abbrev rAll (c : Dev nD) : sProp 𝕄 :=
  iprop(any c (rP 0 0) ∗ any c (rP 0 1) ∗ any c (rP 1 0) ∗ any c (rP 1 1) ∗ any c (rP 2 0) ∗ any c (rP 2 1))

theorem r_pieces (c : Dev nD) :
    bigSep Finset.univ (fun t : Fin 3 × Fin 2 => (any c (rP t.1 t.2) : sProp 𝕄)) = rAll c := by
  rw [BI.bigSep_univ_eq_bigSepL [(0,0),(0,1),(1,0),(1,1),(2,0),(2,1)] (by decide) (by decide)]; rfl

theorem r_split (c : Dev nD) : (any c rM : sProp 𝕄) ⊢ rAll c := by
  rw [← r_pieces]
  exact owns_shatter (c : Thread nD τ) rM fullShare (fun t : Fin 3 × Fin 2 => rR t.1 t.2) (fun _ _ => rfl) rR_disjoint rR_cover

theorem r_join (c : Dev nD) : (rAll c : sProp 𝕄) ⊢ any c rM := by
  rw [← r_pieces]
  exact owns_glue (c : Thread nD τ) rM fullShare (fun t : Fin 3 × Fin 2 => rR t.1 t.2) (fun _ _ => rfl) rR_disjoint rR_cover

/-- The four tiles of the magnitudes. -/
abbrev aAll (c : Dev nD) : sProp 𝕄 := iprop(any c (aP 0) ∗ any c (aP 1) ∗ any c (aP 2) ∗ any c (aP 3))

theorem a_pieces (c : Dev nD) : bigSep Finset.univ (fun t : Fin 4 => (any c (aP t) : sProp 𝕄)) = aAll c := by
  rw [BI.bigSep_univ_eq_bigSepL [0, 1, 2, 3] (by decide) (by decide)]; rfl

theorem a_split (c : Dev nD) : (any c aM : sProp 𝕄) ⊢ aAll c := by
  rw [← a_pieces]
  exact owns_shatter (c : Thread nD τ) aM fullShare aR (fun _ _ => rfl) aR_disjoint aR_cover

theorem a_join (c : Dev nD) : (aAll c : sProp 𝕄) ⊢ any c aM := by
  rw [← a_pieces]
  exact owns_glue (c : Thread nD τ) aM fullShare aR (fun _ _ => rfl) aR_disjoint aR_cover

/-- The two slots of the weights' columns. -/
abbrev wAll (c : Dev nD) : sProp 𝕄 := iprop(any c (wP 0) ∗ any c (wP 1))

theorem w_pieces (c : Dev nD) : bigSep Finset.univ (fun t : Fin 2 => (any c (wP t) : sProp 𝕄)) = wAll c := by
  rw [BI.bigSep_univ_eq_bigSepL [0, 1] (by decide) (by decide)]; rfl

theorem w_split (c : Dev nD) : (any c wM : sProp 𝕄) ⊢ wAll c := by
  rw [← w_pieces]
  exact owns_shatter (c : Thread nD τ) wM fullShare wR (fun _ _ => rfl) wR_disjoint wR_cover

theorem w_join (c : Dev nD) : (wAll c : sProp 𝕄) ⊢ any c wM := by
  rw [← w_pieces]
  exact owns_glue (c : Thread nD τ) wM fullShare wR (fun _ _ => rfl) wR_disjoint wR_cover

/-- What the peers may write into: the three slots with their tiles. -/
theorem land_split (c : Dev nD) : iprop(any c rM ∗ any c aM) ⊢ (iprop(any c (aP 0) ∗ land c 0 ∗ land c 1 ∗ land c 2) : sProp 𝕄) := by
  iintro ⟨HR, HA⟩
  ihave HR' := (r_split c) $$ HR
  ihave HA' := (a_split c) $$ HA
  icases HR' with ⟨R0, R1, R2, R3, R4, R5⟩
  icases HA' with ⟨A0, A1, A2, A3⟩
  isplitl [A0]; · iexact A0
  unfold land
  isplitl [R0 R1 A1]
  · isplitl [R0]; · iexact R0
    isplitl [R1]; · iexact R1
    iexact A1
  isplitl [R2 R3 A2]
  · isplitl [R2]; · iexact R2
    isplitl [R3]; · iexact R3
    iexact A2
  isplitl [R4]; · iexact R4
  isplitl [R5]; · iexact R5
  iexact A3

/-! ## The shares -/

/-- The tile a device sends is read by three copies at once. -/
theorem s_split (c : Dev nD) (X : Vec F S8x128 .f32) :
    (ownsTc c sM fullShare X : sProp 𝕄) ⊢ iprop(ownsTc c sM (aq 0) X ∗ ownsTc c sM (aq 1) X ∗ ownsTc c sM (aq 2) X) := by
  iintro H
  ihave H' := (owns_half (c : Thread nD τ) sM fullShare X) $$ H
  icases H' with ⟨H0, H⟩
  ihave H' := (owns_half (c : Thread nD τ) sM fullShare.right X) $$ H
  icases H' with ⟨H1, H2⟩
  isplitl [H0]; · iexact H0
  isplitl [H1]; · iexact H1
  iexact H2

theorem s_join (c : Dev nD) (X : Vec F S8x128 .f32) :
    iprop(ownsTc c sM (aq 0) X ∗ ownsTc c sM (aq 1) X ∗ ownsTc c sM (aq 2) X) ⊢ (ownsTc c sM fullShare X : sProp 𝕄) := by
  iintro ⟨H0, H1, H2⟩
  iapply (owns_unhalf (c : Thread nD τ) sM fullShare X)
  isplitl [H0]; · iexact H0
  iapply (owns_unhalf (c : Thread nD τ) sM fullShare.right X)
  isplitl [H1]; · iexact H1
  iexact H2

/-- The weights whole, at the share that slot `k`'s copies read. -/
def gWhole (c : Dev nD) (k : Fin 2) : sProp 𝕄 := ((c : Thread nD τ).loc main_arg1) ↦{gq k} m ((c : Thread nD τ).loc main_arg1)
/-- The columns that block `j` does not take, at that share. -/
def gRest (c : Dev nD) (k : Fin 2) (j : Fin 4) : sProp 𝕄 :=
  ((c : Thread nD τ).loc main_arg1) ↦[Finset.univ \ (gP c j).view.set]{gq k} m ((c : Thread nD τ).loc main_arg1)

theorem g_take (c : Dev nD) (k : Fin 2) (j : Fin 4) : (gWhole m c k : sProp 𝕄) ⊢ iprop(gShare m c k j ∗ gRest m c k j) :=
  (pointsTo_split_subset (Finset.subset_univ _)).1

theorem g_give (c : Dev nD) (k : Fin 2) (j : Fin 4) : iprop(gShare m c k j ∗ gRest m c k j) ⊢ (gWhole m c k : sProp 𝕄) :=
  (pointsTo_split_subset (Finset.subset_univ _)).2

theorem g_halves (c : Dev nD) : (((c : Thread nD τ).loc main_arg1) ↦{fullShare} m ((c : Thread nD τ).loc main_arg1) : sProp 𝕄)
    ⊢ iprop(gWhole m c 0 ∗ gWhole m c 1) := (pointsTo_share (PosShare.mem_left_op_right fullShare)).1

theorem g_unhalve (c : Dev nD) : iprop(gWhole m c 0 ∗ gWhole m c 1)
    ⊢ (((c : Thread nD τ).loc main_arg1) ↦{fullShare} m ((c : Thread nD τ).loc main_arg1) : sProp 𝕄) :=
  (pointsTo_share (PosShare.mem_left_op_right fullShare)).2

/-! ## The copies of the weights' columns, with the share they read -/

section Copies

open Idealize.ShloMosaic.Rounds

variable (K : Dev nD × Fin 21 → ℕ)
variable {α : Type} {Q : α → sProp (MT nD τ sig Unit (Elt F) ℕ UU ℕ)}

/-- The copy of the columns of block `j`, round `r` of staging slot `k`, is under way. -/
def inFlight (c : Dev nD) (k : Fin 2) (r : ℕ) (j : Fin 4) : sProp 𝕄 := iprop(ready c (kW k) r ∗ gRest m c k j)

/-- Round `r` of staging slot `k` is over, and the slot holds the columns of block `j`. -/
def arrived (c : Dev nD) (k : Fin 2) (r : ℕ) (j : Fin 4) : sProp 𝕄 :=
  iprop(ownsTc c (wP k) fullShare (wb m c j) ∗ gWhole m c k ∗ atPos ER (cell c (kW k)) (r + 1) ∅ 0 ∗ reached ER (cell c (kW k)) (r + 1))

theorem wp_copy (c : Dev nD) (kk : Fin 2) (r : ℕ) (hr : r < 2) (j : Fin 4) (hj : jw kk r = j)
    {hsrc : (gP c j).view.WordExact} {hdst : (wQ kk).view.WordExact} {hsem : DmaTarget.Typed (nD := nD) (τ := τ) (p := .tc) .hbm (.dma (wS kk)) (.here (wQ kk))}
    {k : PUnit → Prog (TpuEff nD τ sig (Elt F) Λ₀ .tc) α} :
    iprop(recs m K ∗ gWhole m c kk ∗ any c (wP kk) ∗ wTok c kk r)
      ⊢ iprop((inFlight m c kk r j -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (gP c j) (.here (wQ kk)) (.dma (wS kk)) hsrc hdst hsem) k) Q) := by
  iintro ⟨#HR, HG, HW, HT⟩ Hk
  ihave HG' := (g_take m c kk j) $$ HG
  icases HG' with ⟨HG, HG'⟩
  iapply (wp_copy_w m K c kk r hr j hj) $$ [$HR $HG $HW $HT]
  iintro H
  iapply Hk
  unfold inFlight
  isplitl [H] <;> iassumption

theorem wp_arrive (c : Dev nD) (kk : Fin 2) (r : ℕ) (hr : r < 2) (j : Fin 4) (hj : jw kk r = j) (l : List (GSem nD τ sig × ℕ)) (hl : Above 0 l)
    {sp' : Space} {s' : Shape} {e' : EltTy} {src : Memref sig .tc sp' s' e'} {dst : Memref sig .tc .vmem S4096x512 .f32}
    {hsrc : src.view.WordExact} {hdst : dst.view.WordExact} {k : PUnit → Prog (TpuEff nD τ sig (Elt F) Λ₀ .tc) α} :
    iprop(recs m K ∗ owesL c l ∗ inFlight m c kk r j)
      ⊢ iprop(((owesL c l ∗ arrived m c kk r j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (wS kk) src dst hsrc hdst) k) Q) := by
  unfold inFlight arrived
  iintro ⟨#HR, HO, HC, HG⟩ Hk
  iapply (wp_wait_w m K c kk r hr j hj l hl) $$ [$HR $HO $HC]
  unfold wPay
  iintro ⟨HO, Ha, Hr, HW, HG'⟩
  iapply Hk
  isplitl [HO]; · iexact HO
  isplitl [HW]; · iexact HW
  isplitl [HG HG']
  · iapply (g_give m c kk j); isplitl [HG'] <;> iassumption
  isplitl [Ha] <;> iassumption

/-! ## The loads -/

/-- Half `h` of the rows of the activations, read from the buffer of the narrow float. -/
theorem wp_load_xh (c : Dev nD) (h : Fin 2) {hl : xbM.view.LoadsAt (xR h).toLoadRect}
    {k : Vec F S512x4096 .bf16 → Prog (TpuEff nD τ sig (Elt F) Λ₀ .tc) α} :
    (ownsTc c xbM fullShare (xb m c) : sProp 𝕄)
      ⊢ iprop((ownsTc c xbM fullShare (xb m c) -∗ wp frame (wpE (defs₀ (F := F)) 𝒱₀ (c : Thread nD τ) none) Set.univ (k (xh m c h)) Q)
        -∗ wp frame (wpE (defs₀ (F := F)) 𝒱₀ (c : Thread nD τ) none) Set.univ (.op (.load xbM (xR h).toLoadRect hl) k) Q) :=
  wp_load_owns (Γ := .empty) (Φ := Q) (k := k) (hl := hl) (Λ := Λ₀) (defs := defs₀ (F := F)) (Name := ℕ) (U := UU) (Lvl := ℕ) (Ix := Unit)
    (q := fullShare) (X := xb m c) 𝒱₀ (c : Thread nD τ) none Set.univ

/-- The whole of a device's own block. -/
abbrev ownR : Rect S4x1024x512 := Rect.unit (s := S4x1024x512) ![3, 0, 0] S1x1024x512.size inb_S4x1024x512_S1x1024x512_3_0_0

/-- Contents of the buffer of the blocks that hold the device's own block. -/
def yOwn (c : Dev nD) : Vec F S4x1024x512 .bf16 := fun i =>
  Y m c 3 (Fin.ofNat 2 ((i 1).val / 512)) (ix3 (n0 := 1) (n1 := 512) (n2 := 512) 0 (Fin.ofNat 512 (i 1).val) (i 2))

theorem yOwn_half (c : Dev nD) (h : Fin 2) : (fun j => yOwn m c ((yR 3 h).emb j)) = Y m c 3 h := by
  funext j
  have h1 : (j 1).val < 512 := (j 1).isLt
  have h0 : (j 0).val < 1 := (j 0).isLt
  have hh := h.isLt
  have e1 : (((yR 3 h).emb j) 1).val = 512 * h.val + 1 * (j 1).val := rfl
  have e2 : (((yR 3 h).emb j) 2).val = 0 + 1 * (j 2).val := rfl
  unfold yOwn
  rw [show Fin.ofNat 2 ((((yR 3 h).emb j) 1).val / 512) = h from Fin.ext (by show _ % 2 = _; rw [e1]; omega)]
  congr 1
  funext a; apply Fin.ext
  match a with
  | 0 => show 0 = (j 0).val; omega
  | 1 => show (((yR 3 h).emb j) 1).val % 512 = (j 1).val; rw [e1]; omega
  | 2 => show (((yR 3 h).emb j) 2).val = (j 2).val; rw [e2]; omega

theorem yOwn_whole (c : Dev nD) : (fun j => yOwn m c (ownR.emb j)) = own m c := by
  funext j
  have e1 : ((ownR.emb j) 1).val = 0 + 1 * (j 1).val := rfl
  have e2 : ((ownR.emb j) 2).val = 0 + 1 * (j 2).val := rfl
  have e1' : ((ownR.emb j) 1).val = (j 1).val := by rw [e1]; omega
  have e2' : (ownR.emb j) 2 = j 2 := Fin.ext (by rw [e2]; omega)
  unfold yOwn own
  rw [e1', e2']

theorem ownR_cover : ownR.set ⊆ (Finset.univ : Finset (Fin 2)).biUnion (fun h => (yR 3 h).set) := by
  intro i hi
  have hi' := Rect.mem_set_unit.mp hi
  have h0 : 3 ≤ (i 0).val ∧ (i 0).val < 3 + 1 := hi' 0
  have h1 : (i 1).val < 1024 := (i 1).isLt
  have h2 : (i 2).val < 512 := (i 2).isLt
  refine Finset.mem_biUnion.mpr ⟨⟨(i 1).val / 512, by omega⟩, Finset.mem_univ _, Rect.mem_set_unit.mpr fun a => ?_⟩
  match a with
  | 0 => exact h0
  | 1 => show 512 * ((i 1).val / 512) ≤ (i 1).val ∧ (i 1).val < 512 * ((i 1).val / 512) + 512
         omega
  | 2 => exact ⟨Nat.zero_le _, by show (i 2).val < 0 + 512; omega⟩

/-- The load of the device's own block reads its two halves. -/
theorem wp_load_own (c : Dev nD) {hl : yM.view.LoadsAt ownR.toLoadRect}
    {k : Vec F S1x1024x512 .bf16 → Prog (TpuEff nD τ sig (Elt F) Λ₀ .tc) α} :
    (iprop(ownsTc c (yP 3 0) fullShare (Y m c 3 0) ∗ ownsTc c (yP 3 1) fullShare (Y m c 3 1)) : sProp 𝕄)
      ⊢ iprop(((ownsTc c (yP 3 0) fullShare (Y m c 3 0) ∗ ownsTc c (yP 3 1) fullShare (Y m c 3 1))
          -∗ wp frame (wpE (defs₀ (F := F)) 𝒱₀ (c : Thread nD τ) none) Set.univ (k (own m c)) Q)
        -∗ wp frame (wpE (defs₀ (F := F)) 𝒱₀ (c : Thread nD τ) none) Set.univ (.op (.load yM ownR.toLoadRect hl) k) Q) := by
  have e := wp_load_joined (Γ := .empty) (Φ := Q) (k := k) (hl := hl) (Λ := Λ₀) (defs := defs₀ (F := F)) (Name := ℕ) (U := UU) (Lvl := ℕ) (Ix := Unit) (q := fullShare)
    𝒱₀ (c : Thread nD τ) none Set.univ
    (fun h : Fin 2 => yR 3 h) (fun _ _ => rfl)
    (fun t t' htt => yR_disjoint (3, t) (3, t') (fun h => htt (congrArg Prod.snd h))) ownR_cover (yOwn m c)
  have e1 : (bigSep Finset.univ (fun h : Fin 2 => owns (c : Thread nD τ) (yM.slice (yR 3 h) (fun _ => rfl)) fullShare (fun j => yOwn m c ((yR 3 h).emb j))) : sProp 𝕄)
      = iprop(ownsTc c (yP 3 0) fullShare (Y m c 3 0) ∗ ownsTc c (yP 3 1) fullShare (Y m c 3 1)) := by
    rw [BI.bigSep_univ_eq_bigSepL [0, 1] (by decide) (by decide)]
    show iprop(owns _ _ _ _ ∗ owns _ _ _ _) = _
    rw [yOwn_half, yOwn_half]
  rw [e1, yOwn_whole] at e
  exact e

theorem amAll_tile (c : Dev nD) (d : Fin 4) : (fun j => amAll m c ((aR d).emb j)) = fun _ => am m (c - d) := by
  funext j
  have h0 : (j 0).val < 1 := (j 0).isLt
  have hd := d.isLt
  have e0 : (((aR d).emb j) 0).val = d.val + 1 * (j 0).val := rfl
  unfold amAll
  rw [show Fin.ofNat 4 (((aR d).emb j) 0).val = d from Fin.ext (by show _ % 4 = _; rw [e0]; omega)]

theorem sub_none : ∀ c : Dev nD, c - (0 : Fin 4) = c := by decide
theorem src_sub : ∀ (c : Dev nD) (s : Fin 3), c - s.succ = src c s := by decide

/-- All four tiles of the magnitudes, landed. -/
abbrev amTiles (c : Dev nD) : sProp 𝕄 :=
  iprop(ownsTc c (aP 0) fullShare (fun _ => am m c) ∗ ownsTc c (aP 1) fullShare (fun _ => am m (src c 0))
    ∗ ownsTc c (aP 2) fullShare (fun _ => am m (src c 1)) ∗ ownsTc c (aP 3) fullShare (fun _ => am m (src c 2)))

/-- The load of the whole buffer of the magnitudes reads the four tiles. -/
theorem wp_load_amax (c : Dev nD)
    {hl : aM.view.LoadsAt (Rect.unit (s := S4x8x128) ![0, 0, 0] S4x8x128.size inb_S4x8x128_S4x8x128_0_0_0).toLoadRect}
    {k : Vec F S4x8x128 .f32 → Prog (TpuEff nD τ sig (Elt F) Λ₀ .tc) α} :
    (amTiles m c : sProp 𝕄)
      ⊢ iprop((amTiles m c -∗ wp frame (wpE (defs₀ (F := F)) 𝒱₀ (c : Thread nD τ) none) Set.univ (k (amAll m c)) Q)
        -∗ wp frame (wpE (defs₀ (F := F)) 𝒱₀ (c : Thread nD τ) none) Set.univ
          (.op (.load aM (Rect.unit (s := S4x8x128) ![0, 0, 0] S4x8x128.size inb_S4x8x128_S4x8x128_0_0_0).toLoadRect hl) k) Q) := by
  have e := wp_load_joined (Γ := .empty) (Φ := Q) (k := k) (hl := hl) (Λ := Λ₀) (defs := defs₀ (F := F)) (Name := ℕ) (U := UU) (Lvl := ℕ) (Ix := Unit) (q := fullShare)
    𝒱₀ (c : Thread nD τ) none Set.univ aR (fun _ _ => rfl) aR_disjoint (by rw [aR_cover]; exact Finset.subset_univ _) (amAll m c)
  have e1 : (bigSep Finset.univ (fun d : Fin 4 => owns (c : Thread nD τ) (aM.slice (aR d) (fun _ => rfl)) fullShare (fun j => amAll m c ((aR d).emb j))) : sProp 𝕄)
      = amTiles m c := by
    rw [BI.bigSep_univ_eq_bigSepL [0, 1, 2, 3] (by decide) (by decide)]
    show iprop(owns _ _ _ _ ∗ owns _ _ _ _ ∗ owns _ _ _ _ ∗ owns _ _ _ _) = _
    rw [amAll_tile, amAll_tile, amAll_tile, amAll_tile, sub_none c, show c - 1 = src c 0 from src_sub c 0,
      show c - 2 = src c 1 from src_sub c 1, show c - 3 = src c 2 from src_sub c 2]
    rfl
  have e2 : (fun j => amAll m c ((Rect.unit (s := S4x8x128) ![0, 0, 0] S4x8x128.size inb_S4x8x128_S4x8x128_0_0_0).emb j)) = amAll m c :=
    whole_read (by decide) _ _
  rw [e1, e2] at e
  exact e

end Copies

/-! ## The values the parts of the kernel hand on -/

theorem pm_1 (c : Dev nD) : k0_pay5 (k0_pay4 (wb m c 0) (xh m c 0)) = pm m c 1 := rfl
theorem pm_2 (c : Dev nD) : k0_pay9 (pm m c 1) (k0_pay8 (k0_pay2 (wb m c 0)) (xh m c 1)) = pm m c 2 := rfl
theorem pm_3 (c : Dev nD) : k0_pay13 (pm m c 2) (wb m c 1) (xh m c 0) = pm m c 3 := rfl
theorem pm_4 (c : Dev nD) : k0_pay17 (k0_pay11 (wb m c 1)) (pm m c 3) (xh m c 1) = pm m c 4 := rfl
theorem pm_5 (c : Dev nD) : k0_pay22 (pm m c 4) (wb m c 2) (xh m c 0) = pm m c 5 := rfl
theorem pm_6 (c : Dev nD) : k0_pay25 (k0_pay20 (wb m c 2)) (pm m c 5) (xh m c 1) = pm m c 6 := rfl
theorem am_tile (c : Dev nD) : k0_pay33 (pm m c 6) (k0_pay27 (wb m c 3)) (k0_pay29 (wb m c 3) (xh m c 0)) (xh m c 1) = amT m c := rfl
theorem am_own (c : Dev nD) : k0_pay34 (amT m c) = fun _ => am m c := rfl

theorem Y_00 (c : Dev nD) : k0_pay6 (k0_pay3 (wb m c 0) (xh m c 0)) = Y m c 0 0 := rfl
theorem Y_01 (c : Dev nD) : k0_pay10 (k0_pay7 (k0_pay2 (wb m c 0)) (xh m c 1)) = Y m c 0 1 := rfl
theorem Y_10 (c : Dev nD) : k0_pay15 (k0_pay14 (wb m c 1) (xh m c 0)) = Y m c 1 0 := rfl
theorem Y_11 (c : Dev nD) : k0_pay19 (k0_pay18 (k0_pay11 (wb m c 1)) (xh m c 1)) = Y m c 1 1 := rfl
theorem Y_20 (c : Dev nD) : k0_pay23 (wb m c 2) (xh m c 0) = Y m c 2 0 := rfl
theorem Y_21 (c : Dev nD) : k0_pay26 (k0_pay20 (wb m c 2)) (xh m c 1) = Y m c 2 1 := rfl
theorem Y_30 (c : Dev nD) : k0_pay30 (k0_pay28 (wb m c 3) (xh m c 0)) = Y m c 3 0 := rfl
theorem Y_31 (c : Dev nD) : k0_pay32 (k0_pay27 (wb m c 3)) (xh m c 1) = Y m c 3 1 := rfl

end Cert.Exchange

end
-- ==== Proof.BodyA.lean ====
/-
# The kernel up to the last block of the product

Parts 1 to 11 of the kernel's body on a symbolic device: the handshake, the copies of the weights' columns, the first three blocks of
the product and their transfers. Each theorem says what a part takes and what it leaves; `Q` is what is wanted of the values it hands on.
-/
module

public import proofs.«01_k».proof.Proof.Pieces

@[expose] public section

noncomputable section

namespace Cert.Exchange

open Cert.KernelIdeal Cert.KernelIdeal.Gen Cert.Own
open Idealize.ShloMosaic
open Idealize.ShloMosaic.TcCoe
open Idealize.SL Idealize.SL.RA
open scoped Idealize.SL.BI
open Idealize.SL.BI (sProp bigSep)
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ) (K : Dev nD × Fin 21 → ℕ)
variable {α : Type}

/-- A staging slot whose first round is over, ready for the next. -/
theorem arrived_next (c : Dev nD) (k : Fin 2) (j : Fin 4) :
    iprop(arrived m c k 0 j ∗ dutyTok ER (cell c (kW k)) 1 0) ⊢ (iprop(gWhole m c k ∗ any c (wP k) ∗ wTok c k 1) : sProp 𝕄) := by
  unfold arrived wTok
  iintro ⟨⟨HW, HG, Ha, Hr⟩, Ht⟩
  isplitl [HG]; · iexact HG
  isplitl [HW]; · iexists _; iexact HW
  isplitl [Ha]; · iexact Ha
  isplitl [Hr]; · iexact Hr
  iexact Ht

/-- Two units of the handshake. -/
theorem part1 (c : Dev nD)  {Q : (Σ' (d0 : Dev nD) (v2 : BitVec 32) (v3 : Sems sig S_) (v30 : BitVec 32) (c4_i32_18 : BitVec 32), BitVec 1) → sProp (MT nD τ sig Unit (Elt F) ℕ UU ℕ)} :
    iprop(recs m K ∗ owesL c (dues c) ∗ dutyTok ER (cell (peer c 0) kB) 0 2 ∗ land c 2 ∗ dutyTok ER (cell (peer c 1) kB) 0 1 ∗ land c 1)
      ⊢ iprop((∀ v2 v30 c4 v31, owesL c ((dues c).drop 2) -∗ Q ⟨c, v2, SemArray.scalar (sig.barrier 0 rfl), v30, c4, v31⟩)
        -∗ wp frame (wpE (defs₀ (F := F)) 𝒱₀ (c : Thread nD τ) none) Set.univ
      (k0_part1 (F := F) xM (Memref.isWhole_whole _) gM (Memref.isWhole_whole _) oM (Memref.isWhole_whole _) xbM (Memref.isWhole_whole _) wM (Memref.isWhole_whole _)
        yM (Memref.isWhole_whole _) rM (Memref.isWhole_whole _) sM (Memref.isWhole_whole _) aM (Memref.isWhole_whole _)
        cc0_scratch6 cc0_scratch7 cc0_scratch8 cc0_scratch9 cc0_scratch10 ) Q) := by
  rw [k0_part1_eq_skeleton]; unfold k0_part1_skel
  simp only [semSignalWord, semWaitWord, Prog.lift, Prog.bind_op, Prog.bind_ret, Prog.pure_eq_ret, wp_deviceId]
  iintro ⟨#HR, HO, T0, L0, T1, L1⟩ Hk
  iapply (wp_handshake m K c _ 0 (dev1_eq c) ((dues c).drop 1)) $$ [$HR $HO $T0 $L0]
  iintro HO
  iapply (wp_handshake m K c _ 1 (dev2_eq c) ((dues c).drop 2)) $$ [$HR $HO $T1 $L1]
  iintro HO
  rw [wp_ret]; imodintro
  iapply Hk $$ %_ %_ %_ %_ HO

/-- The third unit, the wait for the peers, and the first copy of weights. -/
theorem part2 (c : Dev nD) (v2 v30 c4 : BitVec 32) (v31 : BitVec 1) {Q : (Σ' (v60 : BitVec 32), BitVec 32) → sProp (MT nD τ sig Unit (Elt F) ℕ UU ℕ)} :
    iprop(recs m K ∗ owesL c ((dues c).drop 2) ∗ dutyTok ER (cell (peer c 2) kB) 0 0 ∗ land c 0 ∗ cred (tallyAt (cell c kB) () 3)
        ∗ atPos ER (cell c kB) 0 ∅ 0 ∗ gWhole m c 0 ∗ any c (wP 0) ∗ wTok c 0 0)
      ⊢ iprop((∀ v60 v62, (owesL c (duesL c) ∗ semVal (cell c kB) 0 ∗ land (peer c 0) 0 ∗ land (peer c 1) 1 ∗ land (peer c 2) 2 ∗ inFlight m c 0 0 0) -∗ Q ⟨v60, v62⟩)
        -∗ wp frame (wpE (defs₀ (F := F)) 𝒱₀ (c : Thread nD τ) none) Set.univ
      (k0_part2 (F := F) xM (Memref.isWhole_whole _) gM (Memref.isWhole_whole _) oM (Memref.isWhole_whole _) xbM (Memref.isWhole_whole _) wM (Memref.isWhole_whole _)
        yM (Memref.isWhole_whole _) rM (Memref.isWhole_whole _) sM (Memref.isWhole_whole _) aM (Memref.isWhole_whole _)
        cc0_scratch6 cc0_scratch7 cc0_scratch8 cc0_scratch9 cc0_scratch10 c v2 (SemArray.scalar (sig.barrier 0 rfl)) v30 c4 v31) Q) := by
  rw [k0_part2_eq_skeleton]; unfold k0_part2_skel
  simp only [semSignalWord, semWaitWord, Prog.lift, Prog.bind_op, Prog.bind_ret, Prog.pure_eq_ret, wp_deviceId]
  iintro ⟨#HR, HO, T2, L2, HC, HA, HG, HW, HT⟩ Hk
  iapply (wp_handshake m K c _ 2 (dev3_eq c) (duesL c)) $$ [$HR $HO $T2 $L2]
  iintro HO
  iapply (wp_entered m K c) $$ [$HR $HO $HC $HA]
  iintro ⟨HO, Z0, L0, L1, L2⟩
  iapply (wp_copy m K c 0 0 (by decide) 0 (by decide)) $$ [$HR $HG $HW $HT]
  iintro HF
  rw [wp_ret]; imodintro
  iapply Hk $$ %_ %_ [$HO $Z0 $L0 $L1 $L2 $HF]

/-- The second copy of weights, the activations into the narrow float, the first weights. -/
theorem part3 (c : Dev nD) (v60 v62 : BitVec 32) {Q : (Σ' (v90 : FVec F S4096x512 .bf16) (v92 : FVec F S512x512 .f32), FVec F S1x512x512 .f32) → sProp (MT nD τ sig Unit (Elt F) ℕ UU ℕ)} :
    iprop(recs m K ∗ owesL c (duesL c) ∗ gWhole m c 1 ∗ any c (wP 1) ∗ wTok c 1 0 ∗ ownsTc c xM fullShare (xstg m c) ∗ any c xbM ∗ inFlight m c 0 0 0)
      ⊢ iprop(((owesL c (duesL c) ∗ inFlight m c 1 0 1 ∗ ownsTc c xM fullShare (xstg m c) ∗ ownsTc c xbM fullShare (xb m c) ∗ arrived m c 0 0 0) -∗ Q ⟨k0_pay2 (wb m c 0), k0_pay3 (wb m c 0) (xh m c 0), k0_pay4 (wb m c 0) (xh m c 0)⟩)
        -∗ wp frame (wpE (defs₀ (F := F)) 𝒱₀ (c : Thread nD τ) none) Set.univ
      (k0_part3 (F := F) xM (Memref.isWhole_whole _) gM (Memref.isWhole_whole _) oM (Memref.isWhole_whole _) xbM (Memref.isWhole_whole _) wM (Memref.isWhole_whole _)
        yM (Memref.isWhole_whole _) rM (Memref.isWhole_whole _) sM (Memref.isWhole_whole _) aM (Memref.isWhole_whole _)
        cc0_scratch6 cc0_scratch7 cc0_scratch8 cc0_scratch9 cc0_scratch10 c v60 v62) Q) := by
  rw [k0_part3_eq_skeleton]; unfold k0_part3_skel
  simp only [semSignalWord, semWaitWord, Prog.lift, Prog.bind_op, Prog.bind_ret, Prog.pure_eq_ret, wp_deviceId]
  iintro ⟨#HR, HO, HG, HW, HT, Hx, ⟨%Z, HX⟩, F0⟩ Hk
  iapply (wp_copy m K c 1 0 (by decide) 1 (by decide)) $$ [$HR $HG $HW $HT]
  iintro F1
  iapply (wp_load_all 𝒱₀ (c : Thread nD τ) none Set.univ (show (![0, 0] : Fin 2 → ℕ) = fun _ => 0 by decide)) $$ Hx
  iintro Hx
  iapply (wp_load_all 𝒱₀ (c : Thread nD τ) none Set.univ (show (![0, 0] : Fin 2 → ℕ) = fun _ => 0 by decide)) $$ HX
  iintro HX
  iapply (wp_store_all 𝒱₀ (c : Thread nD τ) none Set.univ (show (![0, 0] : Fin 2 → ℕ) = fun _ => 0 by decide)) $$ HX
  iintro HX
  ihave HX := (show ownsTc c xbM fullShare (k0_pay1 (xstg m c)) ⊢ ownsTc c xbM fullShare (xb m c) from .rfl) $$ HX
  iapply (wp_arrive m K c 0 0 (by decide) 0 (by decide) (duesL c) ((above_duesL c).mono (by decide))) $$ [$HR $HO $F0]
  iintro ⟨HO, A0⟩
  unfold arrived
  icases A0 with ⟨W0, A0⟩
  iapply (wp_load_slice 𝒱₀ (c : Thread nD τ) none Set.univ) $$ W0
  iintro W0
  iapply (wp_load_xh m c 0) $$ HX
  iintro HX
  rw [wp_ret]; imodintro
  iapply Hk $$ [$HO $F1 $Hx $HX $W0 $A0]

/-- The first half of block 0, and its transfer. -/
theorem part4 (c : Dev nD) (v2 : BitVec 32) {Q : (Σ' (v98 : F .f32) (v113 : BitVec 32) (v125 : FVec F S512x512 .f32), FVec F S512x512 .f32) → sProp (MT nD τ sig Unit (Elt F) ℕ UU ℕ)} :
    iprop(recs m K ∗ owesL c (duesL c) ∗ any c (yP 0 0) ∗ (∃ Z, ownsTc (peer c 1) (rP 1 0) fullShare Z) ∗ yTok c 1 0 ∗ ownsTc c xbM fullShare (xb m c))
      ⊢ iprop((∀ v113, (owesL c ((duesL c).drop 1) ∗ ready c (kYs 1 0) 0 ∗ ownsTc c xbM fullShare (xb m c)) -∗ Q ⟨pm m c 1, v113, k0_pay7 (k0_pay2 (wb m c 0)) (xh m c 1), k0_pay8 (k0_pay2 (wb m c 0)) (xh m c 1)⟩)
        -∗ wp frame (wpE (defs₀ (F := F)) 𝒱₀ (c : Thread nD τ) none) Set.univ
      (k0_part4 (F := F) xM (Memref.isWhole_whole _) gM (Memref.isWhole_whole _) oM (Memref.isWhole_whole _) xbM (Memref.isWhole_whole _) wM (Memref.isWhole_whole _)
        yM (Memref.isWhole_whole _) rM (Memref.isWhole_whole _) sM (Memref.isWhole_whole _) aM (Memref.isWhole_whole _)
        cc0_scratch6 cc0_scratch7 cc0_scratch8 cc0_scratch9 cc0_scratch10 c v2 (k0_pay2 (wb m c 0)) (k0_pay3 (wb m c 0) (xh m c 0)) (k0_pay4 (wb m c 0) (xh m c 0))) Q) := by
  rw [k0_part4_eq_skeleton]; unfold k0_part4_skel
  simp only [semSignalWord, semWaitWord, Prog.lift, Prog.bind_op, Prog.bind_ret, Prog.pure_eq_ret, wp_deviceId]
  iintro ⟨#HR, HO, Y00, D10, T10, HX⟩ Hk
  icases Y00 with ⟨%Z00, Y00⟩
  iapply (wp_load_slice 𝒱₀ (c : Thread nD τ) none Set.univ) $$ Y00
  iintro Y00
  iapply (wp_store_slice 𝒱₀ (c : Thread nD τ) none Set.univ) $$ Y00
  iintro Y00
  rw [Y_00]
  iapply (wp_send_y m K c _ 1 0 (dev4_eq c) ((duesL c).drop 1)) $$ [$HR $Y00 $D10 $HO $T10]
  iintro ⟨HO, C10⟩
  iapply (wp_load_xh m c 1) $$ HX
  iintro HX
  rw [pm_1]
  rw [wp_ret]; imodintro
  iapply Hk $$ %_ [$HO $C10 $HX]

/-- The second half of block 0, and its transfer. -/
theorem part5 (c : Dev nD) (v2 : BitVec 32) {Q : (Σ' (v131 : F .f32) (v146 : BitVec 32) (v157 : BitVec 32) (c4_i32_116 : BitVec 32), BitVec 1) → sProp (MT nD τ sig Unit (Elt F) ℕ UU ℕ)} :
    iprop(recs m K ∗ owesL c ((duesL c).drop 1) ∗ any c (yP 0 1) ∗ (∃ Z, ownsTc (peer c 1) (rP 1 1) fullShare Z) ∗ yTok c 1 1)
      ⊢ iprop((∀ v146 v157 c4 v158, (owesL c ((duesL c).drop 2) ∗ ready c (kYs 1 1) 0) -∗ Q ⟨pm m c 2, v146, v157, c4, v158⟩)
        -∗ wp frame (wpE (defs₀ (F := F)) 𝒱₀ (c : Thread nD τ) none) Set.univ
      (k0_part5 (F := F) xM (Memref.isWhole_whole _) gM (Memref.isWhole_whole _) oM (Memref.isWhole_whole _) xbM (Memref.isWhole_whole _) wM (Memref.isWhole_whole _)
        yM (Memref.isWhole_whole _) rM (Memref.isWhole_whole _) sM (Memref.isWhole_whole _) aM (Memref.isWhole_whole _)
        cc0_scratch6 cc0_scratch7 cc0_scratch8 cc0_scratch9 cc0_scratch10 c v2 (pm m c 1) (k0_pay7 (k0_pay2 (wb m c 0)) (xh m c 1)) (k0_pay8 (k0_pay2 (wb m c 0)) (xh m c 1))) Q) := by
  rw [k0_part5_eq_skeleton]; unfold k0_part5_skel
  simp only [semSignalWord, semWaitWord, Prog.lift, Prog.bind_op, Prog.bind_ret, Prog.pure_eq_ret, wp_deviceId]
  iintro ⟨#HR, HO, Y01, D11, T11⟩ Hk
  icases Y01 with ⟨%Z01, Y01⟩
  iapply (wp_load_slice 𝒱₀ (c : Thread nD τ) none Set.univ) $$ Y01
  iintro Y01
  iapply (wp_store_slice 𝒱₀ (c : Thread nD τ) none Set.univ) $$ Y01
  iintro Y01
  rw [Y_01]
  iapply (wp_send_y m K c _ 1 1 (dev5_eq c) ((duesL c).drop 2)) $$ [$HR $Y01 $D11 $HO $T11]
  iintro ⟨HO, C11⟩
  rw [pm_2]
  rw [wp_ret]; imodintro
  iapply Hk $$ %_ %_ %_ %_ [$HO $C11]

/-- The weights of block 2 on their way, and those of block 1 here. -/
theorem part6 (c : Dev nD) (v157 c4 : BitVec 32) (v158 : BitVec 1) {Q : (Σ' (v181 : FVec F S4096x512 .bf16) (v189 : F .f32) (v190 : FVec F S512x512 .bf16), Vec F S1x512x512 .bf16) → sProp (MT nD τ sig Unit (Elt F) ℕ UU ℕ)} :
    iprop(recs m K ∗ owesL c ((duesL c).drop 2) ∗ arrived m c 0 0 0 ∗ dutyTok ER (cell c (kW 0)) 1 0 ∗ inFlight m c 1 0 1 ∗ ownsTc c xbM fullShare (xb m c) ∗ any c (yP 1 0))
      ⊢ iprop((∀ v191, (owesL c ((duesL c).drop 2) ∗ inFlight m c 0 1 2 ∗ arrived m c 1 0 1 ∗ ownsTc c xbM fullShare (xb m c) ∗ any c (yP 1 0)) -∗ Q ⟨k0_pay11 (wb m c 1), pm m c 3, k0_pay14 (wb m c 1) (xh m c 0), v191⟩)
        -∗ wp frame (wpE (defs₀ (F := F)) 𝒱₀ (c : Thread nD τ) none) Set.univ
      (k0_part6 (F := F) xM (Memref.isWhole_whole _) gM (Memref.isWhole_whole _) oM (Memref.isWhole_whole _) xbM (Memref.isWhole_whole _) wM (Memref.isWhole_whole _)
        yM (Memref.isWhole_whole _) rM (Memref.isWhole_whole _) sM (Memref.isWhole_whole _) aM (Memref.isWhole_whole _)
        cc0_scratch6 cc0_scratch7 cc0_scratch8 cc0_scratch9 cc0_scratch10 c (pm m c 2) v157 c4 v158) Q) := by
  rw [k0_part6_eq_skeleton]; unfold k0_part6_skel
  simp only [semSignalWord, semWaitWord, Prog.lift, Prog.bind_op, Prog.bind_ret, Prog.pure_eq_ret, wp_deviceId]
  iintro ⟨#HR, HO, A0, T0, F1, HX, ⟨%Z10, Y10⟩⟩ Hk
  ihave A0 := (arrived_next m c 0 0) $$ [$A0 $T0]
  icases A0 with ⟨G0, W0, T0⟩
  iapply (wp_copy m K c 0 1 (by decide) 2 (by decide)) $$ [$HR $G0 $W0 $T0]
  iintro F0
  iapply (wp_arrive m K c 1 0 (by decide) 1 (by decide) _ (((above_duesL c).mono (by decide)).drop 2)) $$ [$HR $HO $F1]
  iintro ⟨HO, A1⟩
  unfold arrived
  icases A1 with ⟨W1, A1⟩
  iapply (wp_load_slice 𝒱₀ (c : Thread nD τ) none Set.univ) $$ W1
  iintro W1
  iapply (wp_load_xh m c 0) $$ HX
  iintro HX
  iapply (wp_load_slice 𝒱₀ (c : Thread nD τ) none Set.univ) $$ Y10
  iintro Y10
  rw [pm_3]
  rw [wp_ret]; imodintro
  iapply Hk $$ %_ [HO F0 W1 A1 HX Y10]
  iframe HO F0 W1 A1 HX
  iexists _; iexact Y10

/-- The first half of block 1, and its transfer. -/
theorem part7 (c : Dev nD) (v2 : BitVec 32) (v191 : Vec F S1x512x512 .bf16) {Q : (Σ' (v204 : BitVec 32) (v222 : F .f32), FVec F S512x512 .bf16) → sProp (MT nD τ sig Unit (Elt F) ℕ UU ℕ)} :
    iprop(recs m K ∗ owesL c ((duesL c).drop 2) ∗ any c (yP 1 0) ∗ (∃ Z, ownsTc (peer c 0) (rP 0 0) fullShare Z) ∗ yTok c 0 0 ∗ ownsTc c xbM fullShare (xb m c))
      ⊢ iprop((∀ v204, (owesL c ((duesL c).drop 3) ∗ ready c (kYs 0 0) 0 ∗ ownsTc c xbM fullShare (xb m c)) -∗ Q ⟨v204, pm m c 4, k0_pay18 (k0_pay11 (wb m c 1)) (xh m c 1)⟩)
        -∗ wp frame (wpE (defs₀ (F := F)) 𝒱₀ (c : Thread nD τ) none) Set.univ
      (k0_part7 (F := F) xM (Memref.isWhole_whole _) gM (Memref.isWhole_whole _) oM (Memref.isWhole_whole _) xbM (Memref.isWhole_whole _) wM (Memref.isWhole_whole _)
        yM (Memref.isWhole_whole _) rM (Memref.isWhole_whole _) sM (Memref.isWhole_whole _) aM (Memref.isWhole_whole _)
        cc0_scratch6 cc0_scratch7 cc0_scratch8 cc0_scratch9 cc0_scratch10 c v2 (k0_pay11 (wb m c 1)) (pm m c 3) (k0_pay14 (wb m c 1) (xh m c 0)) v191) Q) := by
  rw [k0_part7_eq_skeleton]; unfold k0_part7_skel
  simp only [semSignalWord, semWaitWord, Prog.lift, Prog.bind_op, Prog.bind_ret, Prog.pure_eq_ret, wp_deviceId]
  iintro ⟨#HR, HO, ⟨%Z10, Y10⟩, D00, T00, HX⟩ Hk
  iapply (wp_store_slice 𝒱₀ (c : Thread nD τ) none Set.univ) $$ Y10
  iintro Y10
  rw [Y_10]
  iapply (wp_send_y m K c _ 0 0 (dev6_eq c) ((duesL c).drop 3)) $$ [$HR $Y10 $D00 $HO $T00]
  iintro ⟨HO, C00⟩
  iapply (wp_load_xh m c 1) $$ HX
  iintro HX
  rw [pm_4]
  rw [wp_ret]; imodintro
  iapply Hk $$ %_ [$HO $C00 $HX]

/-- The second half of block 1, and its transfer. -/
theorem part8 (c : Dev nD) (v2 : BitVec 32) {Q : (Σ' (v237 : BitVec 32) (v250 : BitVec 32) (v251 : BitVec 32) (v252 : BitVec 1), BitVec 1) → sProp (MT nD τ sig Unit (Elt F) ℕ UU ℕ)} :
    iprop(recs m K ∗ owesL c ((duesL c).drop 3) ∗ any c (yP 1 1) ∗ (∃ Z, ownsTc (peer c 0) (rP 0 1) fullShare Z) ∗ yTok c 0 1)
      ⊢ iprop((∀ v237 v250 v251 v252 v255, (owesL c ((duesL c).drop 4) ∗ ready c (kYs 0 1) 0) -∗ Q ⟨v237, v250, v251, v252, v255⟩)
        -∗ wp frame (wpE (defs₀ (F := F)) 𝒱₀ (c : Thread nD τ) none) Set.univ
      (k0_part8 (F := F) xM (Memref.isWhole_whole _) gM (Memref.isWhole_whole _) oM (Memref.isWhole_whole _) xbM (Memref.isWhole_whole _) wM (Memref.isWhole_whole _)
        yM (Memref.isWhole_whole _) rM (Memref.isWhole_whole _) sM (Memref.isWhole_whole _) aM (Memref.isWhole_whole _)
        cc0_scratch6 cc0_scratch7 cc0_scratch8 cc0_scratch9 cc0_scratch10 c v2 (k0_pay18 (k0_pay11 (wb m c 1)) (xh m c 1))) Q) := by
  rw [k0_part8_eq_skeleton]; unfold k0_part8_skel
  simp only [semSignalWord, semWaitWord, Prog.lift, Prog.bind_op, Prog.bind_ret, Prog.pure_eq_ret, wp_deviceId]
  iintro ⟨#HR, HO, Y11, D01, T01⟩ Hk
  icases Y11 with ⟨%Z11, Y11⟩
  iapply (wp_load_slice 𝒱₀ (c : Thread nD τ) none Set.univ) $$ Y11
  iintro Y11
  iapply (wp_store_slice 𝒱₀ (c : Thread nD τ) none Set.univ) $$ Y11
  iintro Y11
  rw [Y_11]
  iapply (wp_send_y m K c _ 0 1 (dev7_eq c) ((duesL c).drop 4)) $$ [$HR $Y11 $D01 $HO $T01]
  iintro ⟨HO, C01⟩
  rw [wp_ret]; imodintro
  iapply Hk $$ %_ %_ %_ %_ %_ [$HO $C01]

/-- The weights of block 3 on their way, those of block 2 here, and the first half of block 2. -/
theorem part9 (c : Dev nD) (v2 v250 v251 : BitVec 32) (v252 v255 : BitVec 1) {Q : (Σ' (v272 : FVec F S4096x512 .bf16) (v280 : F .f32) (v285 : BitVec 32), BitVec 32) → sProp (MT nD τ sig Unit (Elt F) ℕ UU ℕ)} :
    iprop(recs m K ∗ owesL c ((duesL c).drop 4) ∗ arrived m c 1 0 1 ∗ dutyTok ER (cell c (kW 1)) 1 0 ∗ inFlight m c 0 1 2 ∗ ownsTc c xbM fullShare (xb m c) ∗ any c (yP 2 0))
      ⊢ iprop((∀ v285 v287, (owesL c ((duesL c).drop 4) ∗ inFlight m c 1 1 3 ∗ arrived m c 0 1 2 ∗ ownsTc c xbM fullShare (xb m c) ∗ ownsTc c (yP 2 0) fullShare (Y m c 2 0)) -∗ Q ⟨k0_pay20 (wb m c 2), pm m c 5, v285, v287⟩)
        -∗ wp frame (wpE (defs₀ (F := F)) 𝒱₀ (c : Thread nD τ) none) Set.univ
      (k0_part9 (F := F) xM (Memref.isWhole_whole _) gM (Memref.isWhole_whole _) oM (Memref.isWhole_whole _) xbM (Memref.isWhole_whole _) wM (Memref.isWhole_whole _)
        yM (Memref.isWhole_whole _) rM (Memref.isWhole_whole _) sM (Memref.isWhole_whole _) aM (Memref.isWhole_whole _)
        cc0_scratch6 cc0_scratch7 cc0_scratch8 cc0_scratch9 cc0_scratch10 c v2 (pm m c 4) v250 v251 v252 v255) Q) := by
  rw [k0_part9_eq_skeleton]; unfold k0_part9_skel
  simp only [semSignalWord, semWaitWord, Prog.lift, Prog.bind_op, Prog.bind_ret, Prog.pure_eq_ret, wp_deviceId]
  iintro ⟨#HR, HO, A1, T1, F0, HX, Y20⟩ Hk
  ihave A1 := (arrived_next m c 1 1) $$ [$A1 $T1]
  icases A1 with ⟨G1, W1, T1⟩
  iapply (wp_copy m K c 1 1 (by decide) 3 (by decide)) $$ [$HR $G1 $W1 $T1]
  iintro F1
  iapply (wp_arrive m K c 0 1 (by decide) 2 (by decide) _ (((above_duesL c).mono (by decide)).drop 4)) $$ [$HR $HO $F0]
  iintro ⟨HO, A0⟩
  unfold arrived
  icases A0 with ⟨W0, A0⟩
  iapply (wp_load_slice 𝒱₀ (c : Thread nD τ) none Set.univ) $$ W0
  iintro W0
  iapply (wp_load_xh m c 0) $$ HX
  iintro HX
  icases Y20 with ⟨%Z20, Y20⟩
  iapply (wp_load_slice 𝒱₀ (c : Thread nD τ) none Set.univ) $$ Y20
  iintro Y20
  iapply (wp_store_slice 𝒱₀ (c : Thread nD τ) none Set.univ) $$ Y20
  iintro Y20
  rw [Y_20]
  rw [pm_5]
  rw [wp_ret]; imodintro
  iapply Hk $$ %_ %_ [$HO $F1 $W0 $A0 $HX $Y20]

/-- The transfer of the first half of block 2, and the second half. -/
theorem part10 (c : Dev nD) (v2 v285 v287 : BitVec 32) {Q : (Σ' (v295 : BitVec 32) (v313 : F .f32) (v318 : BitVec 32) (c4_i32_241 : BitVec 32) (v319 : BitVec 1), BitVec 32) → sProp (MT nD τ sig Unit (Elt F) ℕ UU ℕ)} :
    iprop(recs m K ∗ owesL c ((duesL c).drop 4) ∗ ownsTc c (yP 2 0) fullShare (Y m c 2 0) ∗ (∃ Z, ownsTc (peer c 2) (rP 2 0) fullShare Z) ∗ yTok c 2 0 ∗ ownsTc c xbM fullShare (xb m c) ∗ any c (yP 2 1))
      ⊢ iprop((∀ v295 v318 c4 v319 c1, (owesL c ((duesL c).drop 5) ∗ ready c (kYs 2 0) 0 ∗ ownsTc c xbM fullShare (xb m c) ∗ ownsTc c (yP 2 1) fullShare (Y m c 2 1)) -∗ Q ⟨v295, pm m c 6, v318, c4, v319, c1⟩)
        -∗ wp frame (wpE (defs₀ (F := F)) 𝒱₀ (c : Thread nD τ) none) Set.univ
      (k0_part10 (F := F) xM (Memref.isWhole_whole _) gM (Memref.isWhole_whole _) oM (Memref.isWhole_whole _) xbM (Memref.isWhole_whole _) wM (Memref.isWhole_whole _)
        yM (Memref.isWhole_whole _) rM (Memref.isWhole_whole _) sM (Memref.isWhole_whole _) aM (Memref.isWhole_whole _)
        cc0_scratch6 cc0_scratch7 cc0_scratch8 cc0_scratch9 cc0_scratch10 c v2 (k0_pay20 (wb m c 2)) (pm m c 5) v285 v287) Q) := by
  rw [k0_part10_eq_skeleton]; unfold k0_part10_skel
  simp only [semSignalWord, semWaitWord, Prog.lift, Prog.bind_op, Prog.bind_ret, Prog.pure_eq_ret, wp_deviceId]
  iintro ⟨#HR, HO, Y20, D20, T20, HX, Y21⟩ Hk
  iapply (wp_send_y m K c _ 2 0 (dev8_eq c) ((duesL c).drop 5)) $$ [$HR $Y20 $D20 $HO $T20]
  iintro ⟨HO, C20⟩
  iapply (wp_load_xh m c 1) $$ HX
  iintro HX
  icases Y21 with ⟨%Z21, Y21⟩
  iapply (wp_load_slice 𝒱₀ (c : Thread nD τ) none Set.univ) $$ Y21
  iintro Y21
  iapply (wp_store_slice 𝒱₀ (c : Thread nD τ) none Set.univ) $$ Y21
  iintro Y21
  rw [Y_21]
  rw [pm_6]
  rw [wp_ret]; imodintro
  iapply Hk $$ %_ %_ %_ %_ %_ [$HO $C20 $HX $Y21]

/-- The transfer of the second half of block 2, and the weights of block 3. -/
theorem part11 (c : Dev nD) (v318 c4 : BitVec 32) (v319 : BitVec 1) (c1 : BitVec 32) {Q : (Σ' (v328 : BitVec 32) (v346 : FVec F S4096x512 .bf16) (v348 : FVec F S512x512 .f32), FVec F S1x512x512 .f32) → sProp (MT nD τ sig Unit (Elt F) ℕ UU ℕ)} :
    iprop(recs m K ∗ owesL c ((duesL c).drop 5) ∗ ownsTc c (yP 2 1) fullShare (Y m c 2 1) ∗ (∃ Z, ownsTc (peer c 2) (rP 2 1) fullShare Z) ∗ yTok c 2 1 ∗ inFlight m c 1 1 3 ∗ ownsTc c xbM fullShare (xb m c))
      ⊢ iprop((∀ v328, (owesL c ((duesL c).drop 6) ∗ ready c (kYs 2 1) 0 ∗ arrived m c 1 1 3 ∗ ownsTc c xbM fullShare (xb m c)) -∗ Q ⟨v328, k0_pay27 (wb m c 3), k0_pay28 (wb m c 3) (xh m c 0), k0_pay29 (wb m c 3) (xh m c 0)⟩)
        -∗ wp frame (wpE (defs₀ (F := F)) 𝒱₀ (c : Thread nD τ) none) Set.univ
      (k0_part11 (F := F) xM (Memref.isWhole_whole _) gM (Memref.isWhole_whole _) oM (Memref.isWhole_whole _) xbM (Memref.isWhole_whole _) wM (Memref.isWhole_whole _)
        yM (Memref.isWhole_whole _) rM (Memref.isWhole_whole _) sM (Memref.isWhole_whole _) aM (Memref.isWhole_whole _)
        cc0_scratch6 cc0_scratch7 cc0_scratch8 cc0_scratch9 cc0_scratch10 c v318 c4 v319 c1) Q) := by
  rw [k0_part11_eq_skeleton]; unfold k0_part11_skel
  simp only [semSignalWord, semWaitWord, Prog.lift, Prog.bind_op, Prog.bind_ret, Prog.pure_eq_ret, wp_deviceId]
  iintro ⟨#HR, HO, Y21, D21, T21, F1, HX⟩ Hk
  iapply (wp_send_y m K c _ 2 1 (dev9_eq c) ((duesL c).drop 6)) $$ [$HR $Y21 $D21 $HO $T21]
  iintro ⟨HO, C21⟩
  iapply (wp_arrive m K c 1 1 (by decide) 3 (by decide) _ (((above_duesL c).mono (by decide)).drop 6)) $$ [$HR $HO $F1]
  iintro ⟨HO, A1⟩
  unfold arrived
  icases A1 with ⟨W1, A1⟩
  iapply (wp_load_slice 𝒱₀ (c : Thread nD τ) none Set.univ) $$ W1
  iintro W1
  iapply (wp_load_xh m c 0) $$ HX
  iintro HX
  rw [wp_ret]; imodintro
  iapply Hk $$ %_ [$HO $C21 $W1 $A1 $HX]

end Cert.Exchange

end
-- ==== Proof.BodyB.lean ====
/-
# The kernel from the last block of the product on

Parts 12 to 23 of the kernel's body on a symbolic device: the last block, the exchange of the magnitudes, the quantisation of the
device's own block and of what lands from its peers, and the waits for its sends.
-/
module

public import proofs.«01_k».proof.Proof.BodyA

@[expose] public section

noncomputable section

namespace Cert.Exchange

open Cert.KernelIdeal Cert.KernelIdeal.Gen Cert.Own
open Idealize.ShloMosaic
open Idealize.ShloMosaic.TcCoe
open Idealize.SL Idealize.SL.RA
open scoped Idealize.SL.BI
open Idealize.SL.BI (sProp bigSep)
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ) (K : Dev nD × Fin 21 → ℕ)
variable {α : Type}

/-- The rows of the result the device's own block gives. -/
def ownPiece (c : Dev nD) : Vec F S1024x512 .bf16 := k0_pay38 (amAll m c) (own m c)

/-- The last block, which stays, and the tile of the magnitudes. -/
theorem part12 (c : Dev nD) (v2 : BitVec 32) {Q : (Σ' (v381 : BitVec 32) (v382 : BitVec 32) (v383 : BitVec 1), BitVec 32) → sProp (MT nD τ sig Unit (Elt F) ℕ UU ℕ)} :
    iprop(any c (yP 3 0) ∗ ownsTc c xbM fullShare (xb m c) ∗ any c (yP 3 1) ∗ any c sM ∗ any c (aP 0))
      ⊢ iprop((∀ v381 v382 v383 c0, (ownsTc c (yP 3 0) fullShare (Y m c 3 0) ∗ ownsTc c xbM fullShare (xb m c) ∗ ownsTc c (yP 3 1) fullShare (Y m c 3 1) ∗ ownsTc c sM fullShare (amT m c) ∗ ownsTc c (aP 0) fullShare (fun _ => am m c)) -∗ Q ⟨v381, v382, v383, c0⟩)
        -∗ wp frame (wpE (defs₀ (F := F)) 𝒱₀ (c : Thread nD τ) none) Set.univ
      (k0_part12 (F := F) xM (Memref.isWhole_whole _) gM (Memref.isWhole_whole _) oM (Memref.isWhole_whole _) xbM (Memref.isWhole_whole _) wM (Memref.isWhole_whole _)
        yM (Memref.isWhole_whole _) rM (Memref.isWhole_whole _) sM (Memref.isWhole_whole _) aM (Memref.isWhole_whole _)
        cc0_scratch6 cc0_scratch7 cc0_scratch8 cc0_scratch9 cc0_scratch10 v2 (pm m c 6) (k0_pay27 (wb m c 3)) (k0_pay28 (wb m c 3) (xh m c 0)) (k0_pay29 (wb m c 3) (xh m c 0))) Q) := by
  rw [k0_part12_eq_skeleton]; unfold k0_part12_skel
  simp only [semSignalWord, semWaitWord, Prog.lift, Prog.bind_op, Prog.bind_ret, Prog.pure_eq_ret, wp_deviceId]
  iintro ⟨Y30, HX, Y31, ⟨%Zs, S⟩, ⟨%Za, A0⟩⟩ Hk
  icases Y30 with ⟨%Z30, Y30⟩
  iapply (wp_load_slice 𝒱₀ (c : Thread nD τ) none Set.univ) $$ Y30
  iintro Y30
  iapply (wp_store_slice 𝒱₀ (c : Thread nD τ) none Set.univ) $$ Y30
  iintro Y30
  rw [Y_30]
  iapply (wp_load_xh m c 1) $$ HX
  iintro HX
  icases Y31 with ⟨%Z31, Y31⟩
  iapply (wp_load_slice 𝒱₀ (c : Thread nD τ) none Set.univ) $$ Y31
  iintro Y31
  iapply (wp_store_slice 𝒱₀ (c : Thread nD τ) none Set.univ) $$ Y31
  iintro Y31
  rw [Y_31]
  iapply (wp_load_all 𝒱₀ (c : Thread nD τ) none Set.univ (show (![0, 0] : Fin 2 → ℕ) = fun _ => 0 by decide)) $$ S
  iintro S
  iapply (wp_store_all 𝒱₀ (c : Thread nD τ) none Set.univ (show (![0, 0] : Fin 2 → ℕ) = fun _ => 0 by decide)) $$ S
  iintro S
  rw [am_tile]
  iapply (wp_load_all 𝒱₀ (c : Thread nD τ) none Set.univ (show (![0, 0] : Fin 2 → ℕ) = fun _ => 0 by decide)) $$ S
  iintro S
  iapply (wp_load_slice 𝒱₀ (c : Thread nD τ) none Set.univ) $$ A0
  iintro A0
  iapply (wp_store_slice 𝒱₀ (c : Thread nD τ) none Set.univ) $$ A0
  iintro A0
  rw [am_own]
  rw [wp_ret]; imodintro
  iapply Hk $$ %_ %_ %_ %_ [$Y30 $HX $Y31 $S $A0]

/-- The tile to two of the peers. -/
theorem part13 (c : Dev nD) (v2 v381 v382 : BitVec 32) (v383 : BitVec 1) (c0 : BitVec 32) {Q : (Σ' (v389 : BitVec 32) (v408 : BitVec 32) (v417 : BitVec 32), BitVec 32) → sProp (MT nD τ sig Unit (Elt F) ℕ UU ℕ)} :
    iprop(recs m K ∗ owesL c ((duesL c).drop 6) ∗ ownsTc c sM (aq 0) (amT m c) ∗ ownsTc c sM (aq 1) (amT m c)
      ∗ (∃ Z, ownsTc (peer c 0) (aP 1) fullShare Z) ∗ (∃ Z, ownsTc (peer c 1) (aP 2) fullShare Z) ∗ aTok c 0 ∗ aTok c 1)
      ⊢ iprop((∀ v389 v408 v417 c4, (owesL c ((duesL c).drop 8) ∗ ready c (kAs 0) 0 ∗ ready c (kAs 1) 0) -∗ Q ⟨v389, v408, v417, c4⟩)
        -∗ wp frame (wpE (defs₀ (F := F)) 𝒱₀ (c : Thread nD τ) none) Set.univ
      (k0_part13 (F := F) xM (Memref.isWhole_whole _) gM (Memref.isWhole_whole _) oM (Memref.isWhole_whole _) xbM (Memref.isWhole_whole _) wM (Memref.isWhole_whole _)
        yM (Memref.isWhole_whole _) rM (Memref.isWhole_whole _) sM (Memref.isWhole_whole _) aM (Memref.isWhole_whole _)
        cc0_scratch6 cc0_scratch7 cc0_scratch8 cc0_scratch9 cc0_scratch10 c v2 v381 v382 v383 c0) Q) := by
  rw [k0_part13_eq_skeleton]; unfold k0_part13_skel
  simp only [semSignalWord, semWaitWord, Prog.lift, Prog.bind_op, Prog.bind_ret, Prog.pure_eq_ret, wp_deviceId]
  iintro ⟨#HR, HO, S0, S1, D0, D1, T0, T1⟩ Hk
  iapply (wp_send_a m K c _ 0 (dev10_eq c) ((duesL c).drop 7)) $$ [$HR $S0 $D0 $HO $T0]
  iintro ⟨HO, C0⟩
  iapply (wp_send_a m K c _ 1 (dev11_eq c) ((duesL c).drop 8)) $$ [$HR $S1 $D1 $HO $T1]
  iintro ⟨HO, C1⟩
  rw [wp_ret]; imodintro
  iapply Hk $$ %_ %_ %_ %_ [$HO $C0 $C1]

/-- The tile to the third peer, and the tiles of two peers. -/
theorem part14 (c : Dev nD) (v389 v408 v417 c4 : BitVec 32) {Q : (BitVec 32) → sProp (MT nD τ sig Unit (Elt F) ℕ UU ℕ)} :
    iprop(recs m K ∗ owesL c ((duesL c).drop 8) ∗ ownsTc c sM (aq 2) (amT m c)
      ∗ (∃ Z, ownsTc (peer c 2) (aP 3) fullShare Z) ∗ aTok c 2 ∗ ready c (kAr 0) 0 ∗ ready c (kAr 1) 0)
      ⊢ iprop((∀ v427, (owesL c [] ∗ ready c (kAs 2) 0 ∗ semVal (cell c (kAr 0)) 0 ∗ arPay m c 0 ∗ semVal (cell c (kAr 1)) 0 ∗ arPay m c 1) -∗ Q v427)
        -∗ wp frame (wpE (defs₀ (F := F)) 𝒱₀ (c : Thread nD τ) none) Set.univ
      (k0_part14 (F := F) xM (Memref.isWhole_whole _) gM (Memref.isWhole_whole _) oM (Memref.isWhole_whole _) xbM (Memref.isWhole_whole _) wM (Memref.isWhole_whole _)
        yM (Memref.isWhole_whole _) rM (Memref.isWhole_whole _) sM (Memref.isWhole_whole _) aM (Memref.isWhole_whole _)
        cc0_scratch6 cc0_scratch7 cc0_scratch8 cc0_scratch9 cc0_scratch10 c v389 v408 v417 c4) Q) := by
  rw [k0_part14_eq_skeleton]; unfold k0_part14_skel
  simp only [semSignalWord, semWaitWord, Prog.lift, Prog.bind_op, Prog.bind_ret, Prog.pure_eq_ret, wp_deviceId]
  iintro ⟨#HR, HO, S2, D2, T2, R0, R1⟩ Hk
  iapply (wp_send_a m K c _ 2 (dev12_eq c) []) $$ [$HR $S2 $D2 $HO $T2]
  iintro ⟨HO, C2⟩
  iapply (wp_wait_ar m K c 0) $$ [$HR $HO $R0]
  iintro ⟨HO, Z0, P0⟩
  iapply (wp_wait_ar m K c 1) $$ [$HR $HO $R1]
  iintro ⟨HO, Z1, P1⟩
  rw [wp_ret]; imodintro
  iapply Hk $$ %_ [$HO $C2 $Z0 $P0 $Z1 $P1]

/-- The last tile, the factors, and the device's own rows. -/
theorem part15 (c : Dev nD) (v2 v427 : BitVec 32) (X : Vec F S4096x512 .bf16) {Q : (Σ' (v459 : F .f32) (v460 : F .f32) (v479 : BitVec 32) (v480 : BitVec 32), BitVec 1) → sProp (MT nD τ sig Unit (Elt F) ℕ UU ℕ)} :
    iprop(recs m K ∗ owesL c [] ∗ ready c (kAr 2) 0 ∗ ownsTc c (aP 0) fullShare (fun _ => am m c) ∗ arPay m c 0 ∗ arPay m c 1
      ∗ ownsTc c (yP 3 0) fullShare (Y m c 3 0) ∗ ownsTc c (yP 3 1) fullShare (Y m c 3 1) ∗ ownsTc c oM fullShare X)
      ⊢ iprop((∀ v479 v480 v481, (owesL c [] ∗ semVal (cell c (kAr 2)) 0 ∗ amTiles m c ∗ ownsTc c (yP 3 0) fullShare (Y m c 3 0) ∗ ownsTc c (yP 3 1) fullShare (Y m c 3 1)
        ∗ ownsTc c oM fullShare ((oR c).overlay X (ownPiece m c))) -∗ Q ⟨inv m c, scl m c, v479, v480, v481⟩)
        -∗ wp frame (wpE (defs₀ (F := F)) 𝒱₀ (c : Thread nD τ) none) Set.univ
      (k0_part15 (F := F) xM (Memref.isWhole_whole _) gM (Memref.isWhole_whole _) oM (Memref.isWhole_whole _) xbM (Memref.isWhole_whole _) wM (Memref.isWhole_whole _)
        yM (Memref.isWhole_whole _) rM (Memref.isWhole_whole _) sM (Memref.isWhole_whole _) aM (Memref.isWhole_whole _)
        cc0_scratch6 cc0_scratch7 cc0_scratch8 cc0_scratch9 cc0_scratch10 c v2 v427) Q) := by
  rw [k0_part15_eq_skeleton]; unfold k0_part15_skel
  simp only [semSignalWord, semWaitWord, Prog.lift, Prog.bind_op, Prog.bind_ret, Prog.pure_eq_ret, wp_deviceId]
  unfold inv scl
  iintro ⟨#HR, HO, R2, A0, P0, P1, Y0, Y1, X⟩ Hk
  iapply (wp_wait_ar m K c 2) $$ [$HR $HO $R2]
  iintro ⟨HO, Z2, P2⟩
  unfold arPay
  iapply (wp_load_amax m c) $$ [$A0 $P0 $P1 $P2]
  iintro A
  iapply (wp_load_own m c) $$ [$Y0 $Y1]
  iintro ⟨Y0, Y1⟩
  iapply (wp_load_owns 𝒱₀ (c : Thread nD τ) none Set.univ) $$ X
  iintro X
  iapply (wp_store_over 𝒱₀ (c : Thread nD τ) none Set.univ) $$ X
  iintro X
  rw [wp_ret]; imodintro
  iapply Hk $$ %_ %_ %_ [$HO $Z2 $A $Y0 $Y1 X]
  iexact X

/-- The first half landed in slot 1. -/
theorem part16 (c : Dev nD) (v113 v479 v480 : BitVec 32) (v481 : BitVec 1) (X : Vec F S4096x512 .bf16) {Q : (BitVec 32) → sProp (MT nD τ sig Unit (Elt F) ℕ UU ℕ)} :
    iprop(recs m K ∗ owesL c [] ∗ ready c (kYr 1 0) 0 ∗ ownsTc c oM fullShare X)
      ⊢ iprop((∀ v487, (owesL c [] ∗ semVal (cell c (kYr 1 0)) 0 ∗ yrPay m c 1 0
        ∗ ownsTc c oM fullShare ((lR c 1 0).overlay X (piece m c (src c 1) (blkOf 1) 0))) -∗ Q v487)
        -∗ wp frame (wpE (defs₀ (F := F)) 𝒱₀ (c : Thread nD τ) none) Set.univ
      (k0_part16 (F := F) xM (Memref.isWhole_whole _) gM (Memref.isWhole_whole _) oM (Memref.isWhole_whole _) xbM (Memref.isWhole_whole _) wM (Memref.isWhole_whole _)
        yM (Memref.isWhole_whole _) rM (Memref.isWhole_whole _) sM (Memref.isWhole_whole _) aM (Memref.isWhole_whole _)
        cc0_scratch6 cc0_scratch7 cc0_scratch8 cc0_scratch9 cc0_scratch10 c v113 (inv m c) (scl m c) v479 v480 v481) Q) := by
  rw [k0_part16_eq_skeleton]; unfold k0_part16_skel
  simp only [semSignalWord, semWaitWord, Prog.lift, Prog.bind_op, Prog.bind_ret, Prog.pure_eq_ret, wp_deviceId]
  iintro ⟨#HR, HO, R, X⟩ Hk
  iapply (wp_wait_yr m K c 1 0) $$ [$HR $HO $R]
  iintro ⟨HO, Z, P⟩
  unfold yrPay
  iapply (wp_load_slice 𝒱₀ (c : Thread nD τ) none Set.univ) $$ P
  iintro P
  iapply (wp_load_owns 𝒱₀ (c : Thread nD τ) none Set.univ) $$ X
  iintro X
  iapply (wp_store_over 𝒱₀ (c : Thread nD τ) none Set.univ) $$ X
  iintro X
  rw [wp_ret]; imodintro
  iapply Hk $$ %_ [$HO $Z $P X]
  iexact X

/-- The second half landed in slot 1. -/
theorem part17 (c : Dev nD) (v2 v146 v487 : BitVec 32) (X : Vec F S4096x512 .bf16) {Q : (BitVec 32) → sProp (MT nD τ sig Unit (Elt F) ℕ UU ℕ)} :
    iprop(recs m K ∗ owesL c [] ∗ ready c (kYr 1 1) 0 ∗ ownsTc c oM fullShare X)
      ⊢ iprop((∀ v548, (owesL c [] ∗ semVal (cell c (kYr 1 1)) 0 ∗ yrPay m c 1 1
        ∗ ownsTc c oM fullShare ((lR c 1 1).overlay X (piece m c (src c 1) (blkOf 1) 1))) -∗ Q v548)
        -∗ wp frame (wpE (defs₀ (F := F)) 𝒱₀ (c : Thread nD τ) none) Set.univ
      (k0_part17 (F := F) xM (Memref.isWhole_whole _) gM (Memref.isWhole_whole _) oM (Memref.isWhole_whole _) xbM (Memref.isWhole_whole _) wM (Memref.isWhole_whole _)
        yM (Memref.isWhole_whole _) rM (Memref.isWhole_whole _) sM (Memref.isWhole_whole _) aM (Memref.isWhole_whole _)
        cc0_scratch6 cc0_scratch7 cc0_scratch8 cc0_scratch9 cc0_scratch10 c v2 v146 (inv m c) (scl m c) v487) Q) := by
  rw [k0_part17_eq_skeleton]; unfold k0_part17_skel
  simp only [semSignalWord, semWaitWord, Prog.lift, Prog.bind_op, Prog.bind_ret, Prog.pure_eq_ret, wp_deviceId]
  iintro ⟨#HR, HO, R, X⟩ Hk
  iapply (wp_wait_yr m K c 1 1) $$ [$HR $HO $R]
  iintro ⟨HO, Z, P⟩
  unfold yrPay
  iapply (wp_load_slice 𝒱₀ (c : Thread nD τ) none Set.univ) $$ P
  iintro P
  iapply (wp_load_owns 𝒱₀ (c : Thread nD τ) none Set.univ) $$ X
  iintro X
  iapply (wp_store_over 𝒱₀ (c : Thread nD τ) none Set.univ) $$ X
  iintro X
  rw [wp_ret]; imodintro
  iapply Hk $$ %_ [$HO $Z $P X]
  iexact X

/-- The first half landed in slot 0. -/
theorem part18 (c : Dev nD) (v204 v237 v548 : BitVec 32) (X : Vec F S4096x512 .bf16) {Q : PUnit → sProp (MT nD τ sig Unit (Elt F) ℕ UU ℕ)} :
    iprop(recs m K ∗ owesL c [] ∗ ready c (kYr 0 0) 0 ∗ ownsTc c oM fullShare X)
      ⊢ iprop(((owesL c [] ∗ semVal (cell c (kYr 0 0)) 0 ∗ yrPay m c 0 0
        ∗ ownsTc c oM fullShare ((lR c 0 0).overlay X (piece m c (src c 0) (blkOf 0) 0))) -∗ Q ⟨⟩)
        -∗ wp frame (wpE (defs₀ (F := F)) 𝒱₀ (c : Thread nD τ) none) Set.univ
      (k0_part18 (F := F) xM (Memref.isWhole_whole _) gM (Memref.isWhole_whole _) oM (Memref.isWhole_whole _) xbM (Memref.isWhole_whole _) wM (Memref.isWhole_whole _)
        yM (Memref.isWhole_whole _) rM (Memref.isWhole_whole _) sM (Memref.isWhole_whole _) aM (Memref.isWhole_whole _)
        cc0_scratch6 cc0_scratch7 cc0_scratch8 cc0_scratch9 cc0_scratch10 c v204 v237 (inv m c) (scl m c) v548) Q) := by
  rw [k0_part18_eq_skeleton]; unfold k0_part18_skel
  simp only [semSignalWord, semWaitWord, Prog.lift, Prog.bind_op, Prog.bind_ret, Prog.pure_eq_ret, wp_deviceId]
  iintro ⟨#HR, HO, R, X⟩ Hk
  iapply (wp_wait_yr m K c 0 0) $$ [$HR $HO $R]
  iintro ⟨HO, Z, P⟩
  unfold yrPay
  iapply (wp_load_slice 𝒱₀ (c : Thread nD τ) none Set.univ) $$ P
  iintro P
  iapply (wp_load_owns 𝒱₀ (c : Thread nD τ) none Set.univ) $$ X
  iintro X
  iapply (wp_store_over 𝒱₀ (c : Thread nD τ) none Set.univ) $$ X
  iintro X
  rw [wp_ret]; imodintro
  iapply Hk $$ [$HO $Z $P X]
  iexact X

/-- The second half landed in slot 0. -/
theorem part19 (c : Dev nD) (v2 v295 v548 : BitVec 32) (X : Vec F S4096x512 .bf16) {Q : (Σ' (v609 : BitVec 32), BitVec 32) → sProp (MT nD τ sig Unit (Elt F) ℕ UU ℕ)} :
    iprop(recs m K ∗ owesL c [] ∗ ready c (kYr 0 1) 0 ∗ ownsTc c oM fullShare X)
      ⊢ iprop((∀ v609 v610, (owesL c [] ∗ semVal (cell c (kYr 0 1)) 0 ∗ yrPay m c 0 1
        ∗ ownsTc c oM fullShare ((lR c 0 1).overlay X (piece m c (src c 0) (blkOf 0) 1))) -∗ Q ⟨v609, v610⟩)
        -∗ wp frame (wpE (defs₀ (F := F)) 𝒱₀ (c : Thread nD τ) none) Set.univ
      (k0_part19 (F := F) xM (Memref.isWhole_whole _) gM (Memref.isWhole_whole _) oM (Memref.isWhole_whole _) xbM (Memref.isWhole_whole _) wM (Memref.isWhole_whole _)
        yM (Memref.isWhole_whole _) rM (Memref.isWhole_whole _) sM (Memref.isWhole_whole _) aM (Memref.isWhole_whole _)
        cc0_scratch6 cc0_scratch7 cc0_scratch8 cc0_scratch9 cc0_scratch10 c v2 v295 (inv m c) (scl m c) v548) Q) := by
  rw [k0_part19_eq_skeleton]; unfold k0_part19_skel
  simp only [semSignalWord, semWaitWord, Prog.lift, Prog.bind_op, Prog.bind_ret, Prog.pure_eq_ret, wp_deviceId]
  iintro ⟨#HR, HO, R, X⟩ Hk
  iapply (wp_wait_yr m K c 0 1) $$ [$HR $HO $R]
  iintro ⟨HO, Z, P⟩
  unfold yrPay
  iapply (wp_load_slice 𝒱₀ (c : Thread nD τ) none Set.univ) $$ P
  iintro P
  iapply (wp_load_owns 𝒱₀ (c : Thread nD τ) none Set.univ) $$ X
  iintro X
  iapply (wp_store_over 𝒱₀ (c : Thread nD τ) none Set.univ) $$ X
  iintro X
  rw [wp_ret]; imodintro
  iapply Hk $$ %_ %_ [$HO $Z $P X]
  iexact X

/-- The first half landed in slot 2, and the wait for the second. -/
theorem part20 (c : Dev nD) (v328 v609 v610 : BitVec 32) (X : Vec F S4096x512 .bf16) {Q : PUnit → sProp (MT nD τ sig Unit (Elt F) ℕ UU ℕ)} :
    iprop(recs m K ∗ owesL c [] ∗ ready c (kYr 2 0) 0 ∗ ownsTc c oM fullShare X ∗ ready c (kYr 2 1) 0)
      ⊢ iprop(((owesL c [] ∗ semVal (cell c (kYr 2 0)) 0 ∗ yrPay m c 2 0
        ∗ ownsTc c oM fullShare ((lR c 2 0).overlay X (piece m c (src c 2) (blkOf 2) 0))
        ∗ semVal (cell c (kYr 2 1)) 0 ∗ yrPay m c 2 1) -∗ Q ⟨⟩)
        -∗ wp frame (wpE (defs₀ (F := F)) 𝒱₀ (c : Thread nD τ) none) Set.univ
      (k0_part20 (F := F) xM (Memref.isWhole_whole _) gM (Memref.isWhole_whole _) oM (Memref.isWhole_whole _) xbM (Memref.isWhole_whole _) wM (Memref.isWhole_whole _)
        yM (Memref.isWhole_whole _) rM (Memref.isWhole_whole _) sM (Memref.isWhole_whole _) aM (Memref.isWhole_whole _)
        cc0_scratch6 cc0_scratch7 cc0_scratch8 cc0_scratch9 cc0_scratch10 c v328 (inv m c) (scl m c) v609 v610) Q) := by
  rw [k0_part20_eq_skeleton]; unfold k0_part20_skel
  simp only [semSignalWord, semWaitWord, Prog.lift, Prog.bind_op, Prog.bind_ret, Prog.pure_eq_ret, wp_deviceId]
  iintro ⟨#HR, HO, R, X, R1⟩ Hk
  iapply (wp_wait_yr m K c 2 0) $$ [$HR $HO $R]
  iintro ⟨HO, Z, P⟩
  unfold yrPay
  iapply (wp_load_slice 𝒱₀ (c : Thread nD τ) none Set.univ) $$ P
  iintro P
  iapply (wp_load_owns 𝒱₀ (c : Thread nD τ) none Set.univ) $$ X
  iintro X
  iapply (wp_store_over 𝒱₀ (c : Thread nD τ) none Set.univ) $$ X
  iintro X
  iapply (wp_wait_yr m K c 2 1) $$ [$HR $HO $R1]
  iintro ⟨HO, Z1, P1⟩
  rw [wp_ret]; imodintro
  iapply Hk $$ [$HO $Z $P X $Z1 P1]
  isplitl [X]; · iexact X
  unfold yrPay; iexact P1

/-- The second half landed in slot 2, and the first of the sends over. -/
theorem part21 (c : Dev nD) (v609 : BitVec 32) (X : Vec F S4096x512 .bf16) {Q : PUnit → sProp (MT nD τ sig Unit (Elt F) ℕ UU ℕ)} :
    iprop(recs m K ∗ owesL c [] ∗ yrPay m c 2 1 ∗ ownsTc c oM fullShare X ∗ ready c (kYs 1 0) 0)
      ⊢ iprop(((owesL c [] ∗ yrPay m c 2 1
        ∗ ownsTc c oM fullShare ((lR c 2 1).overlay X (piece m c (src c 2) (blkOf 2) 1)) ∗ semVal (cell c (kYs 1 0)) 0 ∗ ysPay m c 1 0) -∗ Q ⟨⟩)
        -∗ wp frame (wpE (defs₀ (F := F)) 𝒱₀ (c : Thread nD τ) none) Set.univ
      (k0_part21 (F := F) xM (Memref.isWhole_whole _) gM (Memref.isWhole_whole _) oM (Memref.isWhole_whole _) xbM (Memref.isWhole_whole _) wM (Memref.isWhole_whole _)
        yM (Memref.isWhole_whole _) rM (Memref.isWhole_whole _) sM (Memref.isWhole_whole _) aM (Memref.isWhole_whole _)
        cc0_scratch6 cc0_scratch7 cc0_scratch8 cc0_scratch9 cc0_scratch10 c (inv m c) (scl m c) v609) Q) := by
  rw [k0_part21_eq_skeleton]; unfold k0_part21_skel
  simp only [semSignalWord, semWaitWord, Prog.lift, Prog.bind_op, Prog.bind_ret, Prog.pure_eq_ret, wp_deviceId]
  iintro ⟨#HR, HO, P, X, C10⟩ Hk
  unfold yrPay
  iapply (wp_load_slice 𝒱₀ (c : Thread nD τ) none Set.univ) $$ P
  iintro P
  iapply (wp_load_owns 𝒱₀ (c : Thread nD τ) none Set.univ) $$ X
  iintro X
  iapply (wp_store_over 𝒱₀ (c : Thread nD τ) none Set.univ) $$ X
  iintro X
  iapply (wp_wait_ys m K c 1 0) $$ [$HR $HO $C10]
  iintro ⟨HO, Z10, P10⟩
  rw [wp_ret]; imodintro
  iapply Hk $$ [$HO $P X $Z10 $P10]
  iexact X

/-- Four more sends over. -/
theorem part22 (c : Dev nD)  {Q : PUnit → sProp (MT nD τ sig Unit (Elt F) ℕ UU ℕ)} :
    iprop(recs m K ∗ owesL c [] ∗ ready c (kYs 1 1) 0 ∗ ready c (kYs 0 0) 0 ∗ ready c (kYs 0 1) 0 ∗ ready c (kYs 2 0) 0)
      ⊢ iprop(((owesL c []
        ∗ semVal (cell c (kYs 1 1)) 0 ∗ ysPay m c 1 1 ∗ semVal (cell c (kYs 0 0)) 0 ∗ ysPay m c 0 0 ∗ semVal (cell c (kYs 0 1)) 0 ∗ ysPay m c 0 1 ∗ semVal (cell c (kYs 2 0)) 0 ∗ ysPay m c 2 0) -∗ Q ⟨⟩)
        -∗ wp frame (wpE (defs₀ (F := F)) 𝒱₀ (c : Thread nD τ) none) Set.univ
      (k0_part22 (F := F) xM (Memref.isWhole_whole _) gM (Memref.isWhole_whole _) oM (Memref.isWhole_whole _) xbM (Memref.isWhole_whole _) wM (Memref.isWhole_whole _)
        yM (Memref.isWhole_whole _) rM (Memref.isWhole_whole _) sM (Memref.isWhole_whole _) aM (Memref.isWhole_whole _)
        cc0_scratch6 cc0_scratch7 cc0_scratch8 cc0_scratch9 cc0_scratch10 ) Q) := by
  rw [k0_part22_eq_skeleton]; unfold k0_part22_skel
  simp only [semSignalWord, semWaitWord, Prog.lift, Prog.bind_op, Prog.bind_ret, Prog.pure_eq_ret, wp_deviceId]
  iintro ⟨#HR, HO, C11, C00, C01, C20⟩ Hk
  iapply (wp_wait_ys m K c 1 1) $$ [$HR $HO $C11]
  iintro ⟨HO, Z11, P11⟩
  iapply (wp_wait_ys m K c 0 0) $$ [$HR $HO $C00]
  iintro ⟨HO, Z00, P00⟩
  iapply (wp_wait_ys m K c 0 1) $$ [$HR $HO $C01]
  iintro ⟨HO, Z01, P01⟩
  iapply (wp_wait_ys m K c 2 0) $$ [$HR $HO $C20]
  iintro ⟨HO, Z20, P20⟩
  rw [wp_ret]; imodintro
  iapply Hk $$ [$HO $Z11 $P11 $Z00 $P00 $Z01 $P01 $Z20 $P20]

end Cert.Exchange

end
-- ==== Proof.Body.lean ====
/-
# The whole of the kernel's body

The parts one after the other on a symbolic device, from what the device is given at entry to every semaphore at zero, every
buffer whole again, and the result's rows written one piece over the other.
-/
module

public import proofs.«01_k».proof.Proof.BodyB

@[expose] public section

noncomputable section

namespace Cert.Exchange

open Cert.KernelIdeal Cert.KernelIdeal.Gen Cert.Own
open Idealize.ShloMosaic
open Idealize.ShloMosaic.TcCoe
open Idealize.SL Idealize.SL.RA
open scoped Idealize.SL.BI
open Idealize.SL.BI (sProp bigSep)
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ) (K : Dev nD × Fin 21 → ℕ)

/-- The ghost state device `c` starts with: the tokens of what it pays, its places, and the credits of what its peers owe it. -/
def given (c : Dev nD) : sProp 𝕄 :=
  iprop((dutyTok ER (cell (peer c 0) kB) 0 2 ∗ dutyTok ER (cell (peer c 1) kB) 0 1 ∗ dutyTok ER (cell (peer c 2) kB) 0 0
      ∗ cred (tallyAt (cell c kB) () 3) ∗ atPos ER (cell c kB) 0 ∅ 0)
    ∗ (wTok c 0 0 ∗ wTok c 1 0 ∗ dutyTok ER (cell c (kW 0)) 1 0 ∗ dutyTok ER (cell c (kW 1)) 1 0)
    ∗ (yTok c 0 0 ∗ yTok c 0 1 ∗ yTok c 1 0 ∗ yTok c 1 1 ∗ yTok c 2 0 ∗ yTok c 2 1)
    ∗ (aTok c 0 ∗ aTok c 1 ∗ aTok c 2)
    ∗ (ready c (kYr 0 0) 0 ∗ ready c (kYr 0 1) 0 ∗ ready c (kYr 1 0) 0 ∗ ready c (kYr 1 1) 0 ∗ ready c (kYr 2 0) 0 ∗ ready c (kYr 2 1) 0)
    ∗ (ready c (kAr 0) 0 ∗ ready c (kAr 1) 0 ∗ ready c (kAr 2) 0))

/-- The six scratch buffers, at any contents. -/
def scratch (c : Dev nD) : sProp 𝕄 := iprop(any c xbM ∗ any c wM ∗ any c yM ∗ any c rM ∗ any c sM ∗ any c aM)

/-- The kernel's own cells, all at zero. -/
def zeros (c : Dev nD) : sProp 𝕄 :=
  iprop((semVal (cell c (kW 0)) 0 ∗ semVal (cell c (kW 1)) 0)
    ∗ (semVal (cell c (kYs 0 0)) 0 ∗ semVal (cell c (kYs 0 1)) 0 ∗ semVal (cell c (kYs 1 0)) 0 ∗ semVal (cell c (kYs 1 1)) 0 ∗ semVal (cell c (kYs 2 0)) 0 ∗ semVal (cell c (kYs 2 1)) 0)
    ∗ (semVal (cell c (kYr 0 0)) 0 ∗ semVal (cell c (kYr 0 1)) 0 ∗ semVal (cell c (kYr 1 0)) 0 ∗ semVal (cell c (kYr 1 1)) 0 ∗ semVal (cell c (kYr 2 0)) 0 ∗ semVal (cell c (kYr 2 1)) 0)
    ∗ (semVal (cell c (kAs 0)) 0 ∗ semVal (cell c (kAs 1)) 0 ∗ semVal (cell c (kAs 2)) 0)
    ∗ (semVal (cell c (kAr 0)) 0 ∗ semVal (cell c (kAr 1)) 0 ∗ semVal (cell c (kAr 2)) 0))

/-- The weights, whole. -/
def weights (c : Dev nD) : sProp 𝕄 := ((c : Thread nD τ).loc main_arg1) ↦{fullShare} m ((c : Thread nD τ).loc main_arg1)

/-- One landed piece over the result. -/
abbrev over (c : Dev nD) (s : Fin 3) (h : Fin 2) (X : Vec F S4096x512 .bf16) : Vec F S4096x512 .bf16 :=
  (lR c s h).overlay X (piece m c (src c s) (blkOf s) h)

/-- The result as it is written: the device's own rows, then each landed piece. -/
def written (c : Dev nD) (X : Vec F S4096x512 .bf16) : Vec F S4096x512 .bf16 :=
  over m c 2 1 (over m c 2 0 (over m c 0 1 (over m c 0 0 (over m c 1 1 (over m c 1 0 ((oR c).overlay X (ownPiece m c)))))))

/-- The pieces at the end make the scratch buffers whole. -/
theorem scratch_whole (c : Dev nD) :
    iprop(ownsTc c xbM fullShare (xb m c) ∗ (ownsTc c (wP 0) fullShare (wb m c 2) ∗ ownsTc c (wP 1) fullShare (wb m c 3))
      ∗ ((ysPay m c 0 0 ∗ ysPay m c 0 1 ∗ ysPay m c 1 0 ∗ ysPay m c 1 1 ∗ ysPay m c 2 0 ∗ ysPay m c 2 1) ∗ ownsTc c (yP 3 0) fullShare (Y m c 3 0) ∗ ownsTc c (yP 3 1) fullShare (Y m c 3 1))
      ∗ (yrPay m c 0 0 ∗ yrPay m c 0 1 ∗ yrPay m c 1 0 ∗ yrPay m c 1 1 ∗ yrPay m c 2 0 ∗ yrPay m c 2 1)
      ∗ (asPay m c 0 ∗ asPay m c 1 ∗ asPay m c 2) ∗ amTiles m c) ⊢ scratch (F := F) c := by
  unfold scratch ysPay yrPay asPay
  iintro ⟨HX, ⟨W0, W1⟩, ⟨⟨P00, P01, P10, P11, P20, P21⟩, P30, P31⟩, ⟨R00, R01, R10, R11, R20, R21⟩, ⟨S0, S1, S2⟩, A0, A1, A2, A3⟩
  isplitl [HX]; · iexists _; iexact HX
  isplitl [W0 W1]
  · iapply (w_join c)
    isplitl [W0]; · iexists _; iexact W0
    iexists _; iexact W1
  isplitl [P00 P01 P10 P11 P20 P21 P30 P31]
  · iapply (y_join c)
    isplitl [P10]; · iexists _; iexact P10
    isplitl [P11]; · iexists _; iexact P11
    isplitl [P00]; · iexists _; iexact P00
    isplitl [P01]; · iexists _; iexact P01
    isplitl [P20]; · iexists _; iexact P20
    isplitl [P21]; · iexists _; iexact P21
    isplitl [P30]; · iexists _; iexact P30
    iexists _; iexact P31
  isplitl [R00 R01 R10 R11 R20 R21]
  · iapply (r_join c)
    isplitl [R00]; · iexists _; iexact R00
    isplitl [R01]; · iexists _; iexact R01
    isplitl [R10]; · iexists _; iexact R10
    isplitl [R11]; · iexists _; iexact R11
    isplitl [R20]; · iexists _; iexact R20
    iexists _; iexact R21
  isplitl [S0 S1 S2]
  · iexists (amT m c)
    iapply (s_join c (amT m c)) $$ [$S0 $S1 $S2]
  · iapply (a_join c)
    isplitl [A0]; · iexists _; iexact A0
    isplitl [A1]; · iexists _; iexact A1
    isplitl [A2]; · iexists _; iexact A2
    iexists _; iexact A3

set_option maxHeartbeats 1600000 in
/-- All the parts but the last wait, and the last wait. -/
theorem run (c : Dev nD) (X : Vec F S4096x512 .bf16) {Q : PUnit → sProp (MT nD τ sig Unit (Elt F) ℕ UU ℕ)} :
    iprop(recs m K ∗ owesL c (dues c) ∗ given (F := F) c ∗ weights m c ∗ scratch (F := F) c ∗ ownsTc c xM fullShare (xstg m c) ∗ ownsTc c oM fullShare X)
      ⊢ iprop(((owesL c [] ∗ semVal (cell c kB) 0 ∗ zeros (F := F) c ∗ weights m c ∗ scratch (F := F) c ∗ ownsTc c xM fullShare (xstg m c)
          ∗ ownsTc c oM fullShare (written m c X)) -∗ Q ⟨⟩)
        -∗ wp frame (wpE (defs₀ (F := F)) 𝒱₀ (c : Thread nD τ) none) Set.univ
      (cc0_body (F := F) xM (Memref.isWhole_whole _) gM (Memref.isWhole_whole _) oM (Memref.isWhole_whole _) xbM (Memref.isWhole_whole _) wM (Memref.isWhole_whole _)
        yM (Memref.isWhole_whole _) rM (Memref.isWhole_whole _) sM (Memref.isWhole_whole _) aM (Memref.isWhole_whole _)
        cc0_scratch6 cc0_scratch7 cc0_scratch8 cc0_scratch9 cc0_scratch10) Q) := by
  rw [cc0_body_eq_skeleton]; unfold cc0_body_skel
  rw [k0_part23_eq_skeleton]; unfold k0_part23_skel
  simp only [Prog.bind_assoc]
  unfold given scratch weights
  iintro ⟨#HR, HO, ⟨⟨B0, B1, B2, Bc, Ba⟩, ⟨V0, V1, D0, D1⟩, ⟨T00, T01, T10, T11, T20, T21⟩, ⟨U0, U1, U2⟩, ⟨R00, R01, R10, R11, R20, R21⟩, ⟨Q0, Q1, Q2⟩⟩,
    HG, ⟨XB, WM, YM, RM, SM, AM⟩, X, O⟩ Hk
  ihave HG := (g_halves m c) $$ HG
  icases HG with ⟨G0, G1⟩
  ihave WM := (w_split c) $$ WM
  icases WM with ⟨W0, W1⟩
  ihave YM := (y_split c) $$ YM
  icases YM with ⟨Y00, Y01, Y10, Y11, Y20, Y21, Y30, Y31⟩
  ihave HL := (land_split c) $$ [$RM $AM]
  icases HL with ⟨A0, L0, L1, L2⟩
  rw [wp_bind]
  iapply (part1 m K c) $$ [$HR $HO $B0 $L2 $B1 $L1]
  iintro %w1_0 %w1_1 %w1_2 %w1_3 HO
  rw [wp_bind]
  iapply (part2 m K c _ _ _ _) $$ [$HR $HO $B2 $L0 $Bc $Ba $G0 $W0 $V0]
  iintro %w2_0 %w2_1 ⟨HO, ZB, M0, M1, M2, F0⟩
  unfold land
  icases M0 with ⟨M00, M01, N0⟩
  icases M1 with ⟨M10, M11, N1⟩
  icases M2 with ⟨M20, M21, N2⟩
  rw [wp_bind]
  iapply (part3 m K c _ _) $$ [$HR $HO $G1 $W1 $V1 $X $XB $F0]
  iintro ⟨HO, F1, X, XB, E0⟩
  rw [wp_bind]
  iapply (part4 m K c _) $$ [$HR $HO $Y00 $M10 $T10 $XB]
  iintro %w4_0 ⟨HO, C10, XB⟩
  rw [wp_bind]
  iapply (part5 m K c _) $$ [$HR $HO $Y01 $M11 $T11]
  iintro %w5_0 %w5_1 %w5_2 %w5_3 ⟨HO, C11⟩
  rw [wp_bind]
  iapply (part6 m K c _ _ _) $$ [$HR $HO $E0 $D0 $F1 $XB $Y10]
  iintro %w6_0 ⟨HO, F0, E1, XB, Y10⟩
  rw [wp_bind]
  iapply (part7 m K c _ _) $$ [$HR $HO $Y10 $M00 $T00 $XB]
  iintro %w7_0 ⟨HO, C00, XB⟩
  rw [wp_bind]
  iapply (part8 m K c _) $$ [$HR $HO $Y11 $M01 $T01]
  iintro %w8_0 %w8_1 %w8_2 %w8_3 %w8_4 ⟨HO, C01⟩
  rw [wp_bind]
  iapply (part9 m K c _ _ _ _ _) $$ [$HR $HO $E1 $D1 $F0 $XB $Y20]
  iintro %w9_0 %w9_1 ⟨HO, F1, E0, XB, Y20⟩
  rw [wp_bind]
  iapply (part10 m K c _ _ _) $$ [$HR $HO $Y20 $M20 $T20 $XB $Y21]
  iintro %w10_0 %w10_1 %w10_2 %w10_3 %w10_4 ⟨HO, C20, XB, Y21⟩
  rw [wp_bind]
  iapply (part11 m K c _ _ _ _) $$ [$HR $HO $Y21 $M21 $T21 $F1 $XB]
  iintro %w11_0 ⟨HO, C21, E1, XB⟩
  rw [wp_bind]
  iapply (part12 m c _) $$ [$Y30 $XB $Y31 $SM $A0]
  iintro %w12_0 %w12_1 %w12_2 %w12_3 ⟨Y30, XB, Y31, SM, A0⟩
  ihave SM := (s_split c (amT m c)) $$ SM
  icases SM with ⟨S0, S1, S2⟩
  rw [wp_bind]
  iapply (part13 m K c _ _ _ _ _) $$ [$HR $HO $S0 $S1 $N0 $N1 $U0 $U1]
  iintro %w13_0 %w13_1 %w13_2 %w13_3 ⟨HO, K0, K1⟩
  rw [wp_bind]
  iapply (part14 m K c _ _ _ _) $$ [$HR $HO $S2 $N2 $U2 $Q0 $Q1]
  iintro %w14_0 ⟨HO, K2, ZA0, PA0, ZA1, PA1⟩
  rw [wp_bind]
  iapply (part15 m K c _ _ _) $$ [$HR $HO $Q2 $A0 $PA0 $PA1 $Y30 $Y31 $O]
  iintro %w15_0 %w15_1 %w15_2 ⟨HO, ZA2, A, Y30, Y31, O⟩
  rw [wp_bind]
  iapply (part16 m K c _ _ _ _ _) $$ [$HR $HO $R10 $O]
  iintro %w16_0 ⟨HO, Z10, P10, O⟩
  rw [wp_bind]
  iapply (part17 m K c _ _ _ _) $$ [$HR $HO $R11 $O]
  iintro %w17_0 ⟨HO, Z11, P11, O⟩
  rw [wp_bind]
  iapply (part18 m K c _ _ _ _) $$ [$HR $HO $R00 $O]
  iintro ⟨HO, Z00, P00, O⟩
  rw [wp_bind]
  iapply (part19 m K c _ _ _ _) $$ [$HR $HO $R01 $O]
  iintro %w19_0 %w19_1 ⟨HO, Z01, P01, O⟩
  rw [wp_bind]
  iapply (part20 m K c _ _ _ _) $$ [$HR $HO $R20 $O $R21]
  iintro ⟨HO, Z20, P20, O, Z21, P21⟩
  rw [wp_bind]
  iapply (part21 m K c _ _) $$ [$HR $HO $P21 $O $C10]
  iintro ⟨HO, P21, O, X10, I10⟩
  rw [wp_bind]
  iapply (part22 m K c) $$ [$HR $HO $C11 $C00 $C01 $C20]
  iintro ⟨HO, X11, I11, X00, I00, X01, I01, X20, I20⟩
  simp only [Prog.lift, Prog.bind_op, Prog.bind_ret, Prog.pure_eq_ret]
  iapply (wp_wait_ys m K c 2 1) $$ [$HR $HO $C21]
  iintro ⟨HO, X21, I21⟩
  iapply (wp_wait_as m K c 0) $$ [$HR $HO $K0]
  iintro ⟨HO, X0, I0⟩
  iapply (wp_wait_as m K c 1) $$ [$HR $HO $K1]
  iintro ⟨HO, X1, I1⟩
  iapply (wp_wait_as m K c 2) $$ [$HR $HO $K2]
  iintro ⟨HO, X2, I2⟩
  unfold arrived
  icases E0 with ⟨W0, G0, V0, -⟩
  icases E1 with ⟨W1, G1, V1, -⟩
  imod (close_cell m K c (kW 0) (1 + 1) (by decide)) $$ [$HR $V0] with J0
  imod (close_cell m K c (kW 1) (1 + 1) (by decide)) $$ [$HR $V1] with J1
  rw [wp_ret]; imodintro
  ihave HG := (g_unhalve m c) $$ [$G0 $G1]
  ihave HS := (scratch_whole m c) $$ [$XB $W0 $W1 $I00 $I01 $I10 $I11 $I20 $I21 $Y30 $Y31 $P00 $P01 $P10 $P11 $P20 $P21 $I0 $I1 $I2 $A]
  iapply Hk
  unfold zeros written over scratch
  iframe

end Cert.Exchange

end
-- ==== Proof.Out.lean ====
/-
# The result as it is written

The device's own rows and the six landed pieces tile the result, so what is written does not depend on what was there: it is the
device's column block of the whole product, quantised.
-/
module

public import proofs.«01_k».proof.Proof.Body
public import Idealize.ShloMosaic.Lib.ValueLayout

@[expose] public section

noncomputable section

namespace Cert.Exchange

open Cert.KernelIdeal Cert.KernelIdeal.Gen
open Idealize.ShloMosaic
open Idealize.ShloMosaic.TcCoe

variable {F : FTy → Type} [FloatOps F]
variable (m : (ℓ : Loc nD τ sig) → Buf (Elt F) ℓ)

/-- One entry quantised: scaled, rounded, clipped, scaled back, narrowed. -/
def quant (i s : F .f32) (v : F .bf16) : F .bf16 := k0_pay39 i s (fun _ => v) (ix2 (n0 := 512) (n1 := 512) 0 0)

theorem pay39_at (i s : F .f32) (V : Vec F S1x512x512 .bf16) (j : S512x512.Idx) :
    k0_pay39 i s V j = quant i s (V (ix3 (n0 := 1) (n1 := 512) (n2 := 512) 0 (j 0) (j 1))) := by
  have e : shapeCast S512x512 V shapeCasts_S1x512x512_S512x512 j = V (ix3 (n0 := 1) (n1 := 512) (n2 := 512) 0 (j 0) (j 1)) :=
    (congrArg _ (eq_ix2 (n0 := 512) (n1 := 512) j)).trans (ValueIdx.shapeCast_1ab_ab_apply V shapeCasts_S1x512x512_S512x512 (j 0) (j 1))
  rw [← e]; rfl

theorem pay38_at (A : Vec F S4x8x128 .f32) (V : Vec F S1x1024x512 .bf16) (j : S1024x512.Idx) :
    k0_pay38 A V j = quant (k0_pay36 A) (k0_pay37 A) (V (ix3 (n0 := 1) (n1 := 1024) (n2 := 512) 0 (j 0) (j 1))) := by
  have e : shapeCast S1024x512 V shapeCasts_S1x1024x512_S1024x512 j = V (ix3 (n0 := 1) (n1 := 1024) (n2 := 512) 0 (j 0) (j 1)) :=
    (congrArg _ (eq_ix2 (n0 := 1024) (n1 := 512) j)).trans (ValueIdx.shapeCast_1ab_ab_apply V shapeCasts_S1x1024x512_S1024x512 (j 0) (j 1))
  rw [← e]; rfl

/-- The entry of device `o`'s block for device `c`, in row `r` of the block. -/
def entry (c o : Dev nD) (h : Fin 2) (r : Fin 512) (l : Fin 512) : F .bf16 :=
  quant (inv m c) (scl m c) (Y m o (blkTo c o) h (ix3 (n0 := 1) (n1 := 512) (n2 := 512) 0 r l))

theorem outAt_entry (c : Dev nD) (i : S4096x512.Idx) :
    outAt m c i = entry m c (Fin.ofNat 4 ((i 0).val / 1024)) (Fin.ofNat 2 ((i 0).val / 512)) (Fin.ofNat 512 (i 0).val) (i 1) := by
  unfold outAt piece; rw [pay39_at]; rfl

/-- A landed piece over the result, entry by entry. -/
theorem over_at (c : Dev nD) (s : Fin 3) (h : Fin 2) (X : Vec F S4096x512 .bf16) (i : S4096x512.Idx) :
    over m c s h X i = if (i 0).val / 512 = 2 * (src c s).val + h.val then outAt m c i else X i := by
  have hs := (src c s).isLt
  have hh := h.isLt
  have hi : (i 0).val < 4096 := (i 0).isLt
  have hm : i ∈ (lR c s h).set ↔ (i 0).val / 512 = 2 * (src c s).val + h.val := by
    refine Rect.mem_set_unit.trans ?_
    rw [off3_eq]
    constructor
    · intro H
      have h0 : 1024 * (src c s).val + 512 * h.val ≤ (i 0).val ∧ (i 0).val < 1024 * (src c s).val + 512 * h.val + 512 := H 0
      omega
    · intro H a
      match a with
      | 0 => show 1024 * (src c s).val + 512 * h.val ≤ (i 0).val ∧ (i 0).val < 1024 * (src c s).val + 512 * h.val + 512
             omega
      | 1 => exact ⟨Nat.zero_le _, by show (i 1).val < 0 + 512; have : (i 1).val < 512 := (i 1).isLt; omega⟩
  by_cases H : (i 0).val / 512 = 2 * (src c s).val + h.val
  · rw [if_pos H]
    obtain ⟨j, hj⟩ := (lR c s h).exists_idx_of_mem (hm.mpr H)
    have hj' : (lR c s h).emb j = i := hj
    have e0 : (i 0).val = 1024 * (src c s).val + 512 * h.val + (j 0).val := by
      rw [← hj']; refine (Rect.emb_apply (lR c s h) j 0).trans ?_
      show k0_off3 c (BitVec.ofNat 32 (1 + s.val)) (BitVec.ofNat 32 (512 * h.val)) 0 + 1 * (j 0).val = _
      rw [off3_eq, Nat.one_mul]; rfl
    have e1 : (i 1).val = (j 1).val := by
      rw [← hj']; refine (Rect.emb_apply (lR c s h) j 1).trans ?_
      show k0_off3 c (BitVec.ofNat 32 (1 + s.val)) (BitVec.ofNat 32 (512 * h.val)) 1 + 1 * (j 1).val = _
      rw [off3_eq, Nat.one_mul]; exact Nat.zero_add _
    have hj0 : (j 0).val < 512 := (j 0).isLt
    unfold over
    rw [outAt_entry, ← hj', Rect.overlay_emb, hj', piece, pay39_at]
    unfold entry
    rw [show (Fin.ofNat 4 ((i 0).val / 1024) : Fin 4) = src c s from Fin.ext (by show _ % 4 = _; omega),
      show (Fin.ofNat 2 ((i 0).val / 512) : Fin 2) = h from Fin.ext (by show _ % 2 = _; omega), blkTo_src,
      show (Fin.ofNat 512 (i 0).val : Fin 512) = j 0 from Fin.ext (by show _ % 512 = _; omega),
      show i 1 = j 1 from Fin.ext e1]
  · rw [if_neg H]; unfold over
    exact Rect.overlay_of_not_mem _ _ _ (fun h' => H (hm.mp h'))

/-- The device's own rows over the result, entry by entry. -/
theorem base_at (c : Dev nD) (X : Vec F S4096x512 .bf16) (i : S4096x512.Idx) :
    (oR c).overlay X (ownPiece m c) i = if (i 0).val / 1024 = c.val then outAt m c i else X i := by
  have hc : c.val < 4 := c.isLt
  have hi : (i 0).val < 4096 := (i 0).isLt
  have hm : i ∈ (oR c).set ↔ (i 0).val / 1024 = c.val := by
    refine Rect.mem_set_unit.trans ?_
    rw [k0_off2_eq]
    constructor
    · intro H
      have h0 : 1024 * c.val ≤ (i 0).val ∧ (i 0).val < 1024 * c.val + 1024 := H 0
      omega
    · intro H a
      match a with
      | 0 => show 1024 * c.val ≤ (i 0).val ∧ (i 0).val < 1024 * c.val + 1024
             omega
      | 1 => exact ⟨Nat.zero_le _, by show (i 1).val < 0 + 512; have : (i 1).val < 512 := (i 1).isLt; omega⟩
  by_cases H : (i 0).val / 1024 = c.val
  · rw [if_pos H]
    obtain ⟨j, hj⟩ := (oR c).exists_idx_of_mem (hm.mpr H)
    have hj' : (oR c).emb j = i := hj
    have e0 : (i 0).val = 1024 * c.val + (j 0).val := by
      rw [← hj']; refine (Rect.emb_apply (oR c) j 0).trans ?_
      show k0_off2 c 0 + 1 * (j 0).val = _
      rw [k0_off2_eq, Nat.one_mul]; rfl
    have e1 : (i 1).val = (j 1).val := by
      rw [← hj']; refine (Rect.emb_apply (oR c) j 1).trans ?_
      show k0_off2 c 1 + 1 * (j 1).val = _
      rw [k0_off2_eq, Nat.one_mul]; exact Nat.zero_add _
    have hj0 : (j 0).val < 1024 := (j 0).isLt
    rw [outAt_entry, ← hj', Rect.overlay_emb, hj', ownPiece, pay38_at]
    unfold entry own
    rw [show (Fin.ofNat 4 ((i 0).val / 1024) : Fin 4) = c from Fin.ext (by show _ % 4 = _; omega), blkTo_self,
      show (Fin.ofNat 2 ((i 0).val / 512) : Fin 2) = Fin.ofNat 2 ((j 0).val / 512) from Fin.ext (by show _ % 2 = _ % 2; omega),
      show (Fin.ofNat 512 (i 0).val : Fin 512) = Fin.ofNat 512 (j 0).val from Fin.ext (by show _ % 512 = _ % 512; omega),
      show i 1 = j 1 from Fin.ext e1]
    rfl
  · rw [if_neg H]
    exact Rect.overlay_of_not_mem _ _ _ (fun h' => H (hm.mp h'))

/-- Every other device is the sender of some slot. -/
theorem exists_src (c o : Dev nD) (h : o ≠ c) : src c 0 = o ∨ src c 1 = o ∨ src c 2 = o := by
  revert c o; decide

theorem written_eq (c : Dev nD) (X : Vec F S4096x512 .bf16) : written m c X = outAt m c := by
  funext i
  have hi : (i 0).val < 4096 := (i 0).isLt
  unfold written
  rw [over_at, over_at, over_at, over_at, over_at, over_at, base_at]
  repeat' split
  all_goals first | rfl | skip
  exfalso
  rename_i h1 h2 h3 h4 h5 h6 h7
  have hlt : (i 0).val / 1024 < 4 := by omega
  have hv1 : ((1 : Fin 2) : ℕ) = 1 := rfl
  have hv0 : ((0 : Fin 2) : ℕ) = 0 := rfl
  rcases exists_src c ⟨(i 0).val / 1024, hlt⟩ (fun h => h7 (congrArg Fin.val h)) with h | h | h <;>
    · have h' := congrArg Fin.val h
      simp only [hv0, hv1] at *
      omega

end Cert.Exchange

end
-- ==== Proof.Ghost.lean ====
/-
# What the launch deals

The tokens minted at the launch, dealt around so that every device holds those of the payments it makes; the cells' invariants; and
the credits of what a device's peers owe it.
-/
module

public import proofs.«01_k».proof.Proof.Out

@[expose] public section

noncomputable section

namespace Cert.Exchange

open Cert.KernelIdeal Cert.KernelIdeal.Gen Cert.Own
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- The kernel's own semaphores. -/
def osem (k : Fin 20) : SemLoc sig := csem k.succ

theorem cell_injective : Function.Injective (fun ck : Dev nD × Fin 21 => cell ck.1 ck.2) := by
  rintro ⟨c, k⟩ ⟨c', k'⟩ h
  have h1 : c = c' := congrArg (fun g : GSem nD τ sig => g.1.1) h
  have h2 : k = k' := csem_injective (congrArg Prod.snd h)
  rw [h1, h2]

def exCells : Finset (GSem nD τ sig) := Finset.univ.map ⟨fun ck : Dev nD × Fin 21 => cell ck.1 ck.2, cell_injective⟩

/-- The payments of a device's cells: cell, round, duty. -/
def jt : Fin 25 → Fin 21 × Fin 2 × Fin 3 := ![(0, 0, 0), (0, 0, 1), (0, 0, 2), (1, 0, 0), (1, 1, 0), (2, 0, 0), (2, 1, 0), (3, 0, 0), (4, 0, 0), (5, 0, 0), (6, 0, 0), (7, 0, 0), (8, 0, 0), (9, 0, 0), (10, 0, 0), (11, 0, 0), (12, 0, 0), (13, 0, 0), (14, 0, 0), (15, 0, 0), (16, 0, 0), (17, 0, 0), (18, 0, 0), (19, 0, 0), (20, 0, 0)]
theorem jt_injective : Function.Injective jt := by decide
def tokOf (cj : Dev nD × Fin 25) : GSem nD τ sig × ℕ × Fin 3 := (cell cj.1 (jt cj.2).1, (jt cj.2).2.1.val, (jt cj.2).2.2)
theorem tokOf_injective : Function.Injective tokOf := by
  rintro ⟨c, j⟩ ⟨c', j'⟩ h
  have h0 := cell_injective (a₁ := (c, (jt j).1)) (a₂ := (c', (jt j').1)) (congrArg Prod.fst h)
  have h1 : c = c' := congrArg Prod.fst h0
  have h2 : (jt j).1 = (jt j').1 := congrArg Prod.snd h0
  have h3 : (jt j).2.1 = (jt j').2.1 := Fin.ext (congrArg (fun x : GSem nD τ sig × ℕ × Fin 3 => x.2.1) h)
  have h4 : (jt j).2.2 = (jt j').2.2 := congrArg (fun x : GSem nD τ sig × ℕ × Fin 3 => x.2.2) h
  rw [h1, jt_injective (Prod.ext h2 (Prod.ext h3 h4))]
def exToks : Finset (GSem nD τ sig × ℕ × Fin 3) := Finset.univ.map ⟨tokOf, tokOf_injective⟩

/-- The ghost state at the launch: the pipeline's and the exchange's. -/
def u₀ : UU :=
  (initOf (Pipeline.cells cfgs cellOf_inj) (Pipeline.launchToks cfgs cellOf_inj), initOf exCells exToks)

/-- The tokens of device `c`'s own cells. -/
def toks (c : Dev nD) : sProp 𝕄 := bigSep Finset.univ fun j : Fin 25 => dutyTok ER (tokOf (c, j)).1 (tokOf (c, j)).2.1 (tokOf (c, j)).2.2

/-- What the launch deals device `c`. -/
def G (c : Dev nD) : sProp 𝕄 :=
  iprop((bigSep Finset.univ fun k : Fin 21 => roundState ER (Rd m) (cell c k) 0)
    ∗ (bigSep Finset.univ fun k : Fin 21 => iprop(atPos ER (cell c k) 0 ∅ 0 ∗ reached ER (cell c k) 0)) ∗ toks c)

theorem fund : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 21 => Φ (cell c k) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]; rfl
  iintro HX
  imod (Rounds.fund ER (Rd m) exCells exToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem bigSep_fin21 (Φ : Fin 21 → sProp 𝕄) : bigSep Finset.univ Φ = iprop(Φ 0 ∗ bigSep Finset.univ fun k : Fin 20 => Φ k.succ) := by
  rw [bigSep_univ_eq_bigSepL [0, 1, 2, 3, 4, 5, 6, 7, 8, 9, 10, 11, 12, 13, 14, 15, 16, 17, 18, 19, 20] (by decide) (by decide),
    bigSep_univ_eq_bigSepL [0, 1, 2, 3, 4, 5, 6, 7, 8, 9, 10, 11, 12, 13, 14, 15, 16, 17, 18, 19] (by decide) (by decide)]
  rfl

theorem ownSems0_eq (c : Dev nD) : (Pipeline.ownSems0 (Ix := Unit) (Name := ℕ) (U := UU) (Lvl := ℕ) (Val := Elt F) (τ := τ) osem c : sProp 𝕄)
    = bigSep Finset.univ fun k : Fin 20 => semVal (cell c k.succ) 0 := rfl
/-- The barrier semaphore is the one that no launch owns. -/
theorem unscopedSems0_eq (c : Dev nD) : (unscopedSems0 c : sProp 𝕄) = semVal (cell c 0) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 21 => semVal (cell c k) 0 : sProp 𝕄) := by
  rw [ownSems0_eq, unscopedSems0_eq, bigSep_fin21]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (cell c k)))
          ∗ (bigSep Finset.univ fun k => iprop(atPos ER (cell c k) 0 ∅ 0 ∗ reached ER (cell c k) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 21 => semVal (cell c k) 0) ∗ bigSep Finset.univ fun k : Fin 21 => roundState ER (Rd m) (cell c k) 0)
      ⊢ (|={Set.univ}=> bigSep Finset.univ fun k => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- The facts of `recs` without the levels. -/
def facts0 (K : Dev nD × Fin 21 → ℕ) : sProp 𝕄 :=
  iprop((bigSep Finset.univ fun ck : Dev nD × Fin 21 => cellInv ER (Rd m) (K ck) (cell ck.1 ck.2))
    ∗ bigSep Finset.univ fun ck : Dev nD × Fin 21 => reached ER (cell ck.1 ck.2) 0)

instance facts0_persistent (K : Dev nD × Fin 21 → ℕ) : BI.Persistent (facts0 (F := F) m K) := by unfold facts0; infer_instance

/-- The tokens of the payments device `c` makes. -/
def payToks (c : Dev nD) : sProp 𝕄 :=
  iprop((dutyTok ER (cell (peer c 2) kB) 0 0 ∗ dutyTok ER (cell (peer c 1) kB) 0 1 ∗ dutyTok ER (cell (peer c 0) kB) 0 2)
    ∗ (dutyTok ER (cell c (kW 0)) 0 0 ∗ dutyTok ER (cell c (kW 0)) 1 0 ∗ dutyTok ER (cell c (kW 1)) 0 0 ∗ dutyTok ER (cell c (kW 1)) 1 0)
    ∗ (dutyTok ER (cell c (kYs 0 0)) 0 0 ∗ dutyTok ER (cell c (kYs 0 1)) 0 0 ∗ dutyTok ER (cell c (kYs 1 0)) 0 0 ∗ dutyTok ER (cell c (kYs 1 1)) 0 0 ∗ dutyTok ER (cell c (kYs 2 0)) 0 0 ∗ dutyTok ER (cell c (kYs 2 1)) 0 0)
    ∗ (dutyTok ER (cell (peer c 0) (kYr 0 0)) 0 0 ∗ dutyTok ER (cell (peer c 0) (kYr 0 1)) 0 0 ∗ dutyTok ER (cell (peer c 1) (kYr 1 0)) 0 0 ∗ dutyTok ER (cell (peer c 1) (kYr 1 1)) 0 0 ∗ dutyTok ER (cell (peer c 2) (kYr 2 0)) 0 0 ∗ dutyTok ER (cell (peer c 2) (kYr 2 1)) 0 0)
    ∗ (dutyTok ER (cell c (kAs 0)) 0 0 ∗ dutyTok ER (cell c (kAs 1)) 0 0 ∗ dutyTok ER (cell c (kAs 2)) 0 0)
    ∗ (dutyTok ER (cell (peer c 0) (kAr 0)) 0 0 ∗ dutyTok ER (cell (peer c 1) (kAr 1)) 0 0 ∗ dutyTok ER (cell (peer c 2) (kAr 2)) 0 0))
/-- The same, at the cells themselves. -/
def cellToks (c : Dev nD) : sProp 𝕄 :=
  iprop((dutyTok ER (cell c kB) 0 0 ∗ dutyTok ER (cell c kB) 0 1 ∗ dutyTok ER (cell c kB) 0 2)
    ∗ (dutyTok ER (cell c (kW 0)) 0 0 ∗ dutyTok ER (cell c (kW 0)) 1 0 ∗ dutyTok ER (cell c (kW 1)) 0 0 ∗ dutyTok ER (cell c (kW 1)) 1 0)
    ∗ (dutyTok ER (cell c (kYs 0 0)) 0 0 ∗ dutyTok ER (cell c (kYs 0 1)) 0 0 ∗ dutyTok ER (cell c (kYs 1 0)) 0 0 ∗ dutyTok ER (cell c (kYs 1 1)) 0 0 ∗ dutyTok ER (cell c (kYs 2 0)) 0 0 ∗ dutyTok ER (cell c (kYs 2 1)) 0 0)
    ∗ (dutyTok ER (cell c (kYr 0 0)) 0 0 ∗ dutyTok ER (cell c (kYr 0 1)) 0 0 ∗ dutyTok ER (cell c (kYr 1 0)) 0 0 ∗ dutyTok ER (cell c (kYr 1 1)) 0 0 ∗ dutyTok ER (cell c (kYr 2 0)) 0 0 ∗ dutyTok ER (cell c (kYr 2 1)) 0 0)
    ∗ (dutyTok ER (cell c (kAs 0)) 0 0 ∗ dutyTok ER (cell c (kAs 1)) 0 0 ∗ dutyTok ER (cell c (kAs 2)) 0 0)
    ∗ (dutyTok ER (cell c (kAr 0)) 0 0 ∗ dutyTok ER (cell c (kAr 1)) 0 0 ∗ dutyTok ER (cell c (kAr 2)) 0 0))

theorem toks_eq (c : Dev nD) : (toks c : sProp 𝕄) ⊢ cellToks c := by
  unfold toks cellToks
  rw [bigSep_univ_eq_bigSepL [0, 1, 2, 3, 4, 5, 6, 7, 8, 9, 10, 11, 12, 13, 14, 15, 16, 17, 18, 19, 20, 21, 22, 23, 24] (by decide) (by decide)]
  refine (show _ ⊢ iprop(dutyTok ER (cell c 0) 0 0 ∗ dutyTok ER (cell c 0) 0 1 ∗ dutyTok ER (cell c 0) 0 2 ∗ dutyTok ER (cell c 1) 0 0 ∗ dutyTok ER (cell c 1) 1 0 ∗ dutyTok ER (cell c 2) 0 0 ∗ dutyTok ER (cell c 2) 1 0 ∗ dutyTok ER (cell c 3) 0 0 ∗ dutyTok ER (cell c 4) 0 0 ∗ dutyTok ER (cell c 5) 0 0 ∗ dutyTok ER (cell c 6) 0 0 ∗ dutyTok ER (cell c 7) 0 0 ∗ dutyTok ER (cell c 8) 0 0 ∗ dutyTok ER (cell c 9) 0 0 ∗ dutyTok ER (cell c 10) 0 0 ∗ dutyTok ER (cell c 11) 0 0 ∗ dutyTok ER (cell c 12) 0 0 ∗ dutyTok ER (cell c 13) 0 0 ∗ dutyTok ER (cell c 14) 0 0 ∗ dutyTok ER (cell c 15) 0 0 ∗ dutyTok ER (cell c 16) 0 0 ∗ dutyTok ER (cell c 17) 0 0 ∗ dutyTok ER (cell c 18) 0 0 ∗ dutyTok ER (cell c 19) 0 0 ∗ dutyTok ER (cell c 20) 0 0) from Entails.refl _).trans ?_
  iintro ⟨H0, H1, H2, H3, H4, H5, H6, H7, H8, H9, H10, H11, H12, H13, H14, H15, H16, H17, H18, H19, H20, H21, H22, H23, H24⟩
  isplitl [H0 H1 H2]
  · isplitl [H0]; · iexact H0
    isplitl [H1]; · iexact H1
    iexact H2
  isplitl [H3 H4 H5 H6]
  · isplitl [H3]; · iexact H3
    isplitl [H4]; · iexact H4
    isplitl [H5]; · iexact H5
    iexact H6
  isplitl [H7 H8 H9 H10 H11 H12]
  · isplitl [H7]; · iexact H7
    isplitl [H8]; · iexact H8
    isplitl [H9]; · iexact H9
    isplitl [H10]; · iexact H10
    isplitl [H11]; · iexact H11
    iexact H12
  isplitl [H13 H14 H15 H16 H17 H18]
  · isplitl [H13]; · iexact H13
    isplitl [H14]; · iexact H14
    isplitl [H15]; · iexact H15
    isplitl [H16]; · iexact H16
    isplitl [H17]; · iexact H17
    iexact H18
  isplitl [H19 H20 H21]
  · isplitl [H19]; · iexact H19
    isplitl [H20]; · iexact H20
    iexact H21
  isplitl [H22]; · iexact H22
  isplitl [H23]; · iexact H23
  iexact H24

/-- A family over the devices, read at the device its slot `s` sends to. -/
theorem around (s : Fin 3) (Φ : Dev nD → sProp 𝕄) : bigSep Finset.univ Φ = bigSep Finset.univ fun c => Φ (peer c s) :=
  bigSep_univ_equiv (ring s) Φ

/-- The tokens dealt around: each to the device that pays with it. -/
theorem toks_around : (bigSep Finset.univ fun c : Dev nD => (toks c : sProp 𝕄)) ⊢ bigSep Finset.univ fun c : Dev nD => payToks c := by
  refine (show _ ⊢ _ from bigSep_mono fun c _ => toks_eq c).trans ?_
  unfold cellToks payToks
  simp only [bigSep_sep']
  rw [around 2 (fun c : Dev nD => (dutyTok ER (cell c kB) 0 0 : sProp 𝕄)),
    around 1 (fun c : Dev nD => (dutyTok ER (cell c kB) 0 1 : sProp 𝕄)),
    around 0 (fun c : Dev nD => (dutyTok ER (cell c kB) 0 2 : sProp 𝕄)),
    around 0 (fun c : Dev nD => (dutyTok ER (cell c (kYr 0 0)) 0 0 : sProp 𝕄)),
    around 0 (fun c : Dev nD => (dutyTok ER (cell c (kYr 0 1)) 0 0 : sProp 𝕄)),
    around 1 (fun c : Dev nD => (dutyTok ER (cell c (kYr 1 0)) 0 0 : sProp 𝕄)),
    around 1 (fun c : Dev nD => (dutyTok ER (cell c (kYr 1 1)) 0 0 : sProp 𝕄)),
    around 2 (fun c : Dev nD => (dutyTok ER (cell c (kYr 2 0)) 0 0 : sProp 𝕄)),
    around 2 (fun c : Dev nD => (dutyTok ER (cell c (kYr 2 1)) 0 0 : sProp 𝕄)),
    around 0 (fun c : Dev nD => (dutyTok ER (cell c (kAr 0)) 0 0 : sProp 𝕄)),
    around 1 (fun c : Dev nD => (dutyTok ER (cell c (kAr 1)) 0 0 : sProp 𝕄)),
    around 2 (fun c : Dev nD => (dutyTok ER (cell c (kAr 2)) 0 0 : sProp 𝕄))]

/-- What stays with device `c`: its places, and the tokens of the payments it makes. -/
def linear (c : Dev nD) : sProp 𝕄 := iprop((bigSep Finset.univ fun k : Fin 21 => atPos ER (cell c k) 0 ∅ 0) ∗ payToks c)

/-- What the launch's global step makes of what it dealt. -/
def G' (c : Dev nD) : sProp 𝕄 := iprop(∃ K, facts0 m K ∗ linear c)

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (cell c k)))
          ∗ (bigSep Finset.univ fun k => iprop(atPos ER (cell c k) 0 ∅ 0 ∗ reached ER (cell c k) 0)) ∗ toks c) : sProp 𝕄)
      ⊢ bigSep Finset.univ (G' m) := by
  rw [bigSep_sep', bigSep_sep', ← bigSep_univ_prod (fun ck : Dev nD × Fin 21 => iprop(∃ κ : ℕ, cellInv ER (Rd m) κ (cell ck.1 ck.2))),
    bigSep_congr (s := Finset.univ) (fun (c : Dev nD) _ => bigSep_sep' Finset.univ (fun k : Fin 21 => (atPos ER (cell c k) 0 ∅ 0 : sProp 𝕄)) (fun k => reached ER (cell c k) 0)),
    bigSep_sep', ← bigSep_univ_prod (fun ck : Dev nD × Fin 21 => (reached ER (cell ck.1 ck.2) 0 : sProp 𝕄))]
  iintro ⟨HI, ⟨Hat, #HR⟩, Htok⟩
  ihave HK := (BI.bigSep_exists_pi Finset.univ (fun (ck : Dev nD × Fin 21) (κ : ℕ) => (cellInv ER (Rd m) κ (cell ck.1 ck.2) : sProp 𝕄))) $$ HI
  icases HK with ⟨%K, #HI⟩
  ihave Htk := (toks_around (F := F)) $$ Htok
  iapply (bigSep_with_persistent (R := facts0 m K) (Φ := fun c => linear c) fun c _ => (show iprop(facts0 m K ∗ linear c) ⊢ G' m c from by
    unfold G'; iintro H; iexists K; iexact H))
  isplitr
  · unfold facts0; isplitl; · iexact HI
    iexact HR
  · unfold linear; rw [bigSep_sep']
    isplitl [Hat]; · iexact Hat
    iexact Htk

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- What device `c` owes at the launch. -/
def O₀ (c : Dev nD) : CellTallies nD τ sig Unit := owe (dues c)
/-- What is owed to device `c`. -/
def owed (c : Dev nD) : List (GSem nD τ sig × ℕ) := [(cell c kB, 1), (cell c kB, 1), (cell c kB, 1), (cell c (kYr 1 0), NY), (cell c (kYr 1 1), NY), (cell c (kYr 0 0), NY), (cell c (kYr 0 1), NY), (cell c (kYr 2 0), NY), (cell c (kYr 2 1), NY), (cell c (kAr 0), NA), (cell c (kAr 1), NA), (cell c (kAr 2), NA)]

theorem sum_around (s : Fin 3) (k : Fin 21) (n : ℕ) :
    (∑ d : Dev nD, (tallyAt (cell (peer d s) k) () n : CellTallies nD τ sig Unit)) = ∑ d : Dev nD, tallyAt (cell d k) () n :=
  (ring s).sum_comp (fun d : Dev nD => (tallyAt (cell d k) () n : CellTallies nD τ sig Unit))

theorem owed_sum : (∑ d : Dev nD, O₀ d) = ∑ d : Dev nD, owe (owed d) := by
  unfold O₀ dues duesL owed
  simp only [owe, Finset.sum_add_distrib, sum_around]

theorem owed_own (d : Dev nD) (g : GSem nD τ sig) (h : owe (owed d) g ≠ 0) : g.1 = (d.tc : Thread nD τ) := by
  obtain ⟨u, hu⟩ : ∃ u, owe (owed d) g u ≠ 0 := by
    by_contra hn; push Not at hn; exact h (Finsupp.ext hn)
  obtain ⟨x, hx, rfl⟩ := owe_pos (Nat.pos_of_ne_zero hu)
  simp only [owed, List.mem_cons, List.not_mem_nil, or_false] at hx
  rcases hx with rfl | rfl | rfl | rfl | rfl | rfl | rfl | rfl | rfl | rfl | rfl | rfl <;> rfl

theorem creds (c : Dev nD) : (Pipeline.launchCred O₀ c : sProp 𝕄)
    ⊢ iprop(cred (tallyAt (cell c kB) () 3) ∗ (cred (tallyAt (cell c (kYr 0 0)) () (amt (kYr 0 0).val)) ∗ cred (tallyAt (cell c (kYr 0 1)) () (amt (kYr 0 1).val)) ∗ cred (tallyAt (cell c (kYr 1 0)) () (amt (kYr 1 0).val)) ∗ cred (tallyAt (cell c (kYr 1 1)) () (amt (kYr 1 1).val)) ∗ cred (tallyAt (cell c (kYr 2 0)) () (amt (kYr 2 0).val)) ∗ cred (tallyAt (cell c (kYr 2 1)) () (amt (kYr 2 1).val)))
      ∗ (cred (tallyAt (cell c (kAr 0)) () (amt (kAr 0).val)) ∗ cred (tallyAt (cell c (kAr 1)) () (amt (kAr 1).val)) ∗ cred (tallyAt (cell c (kAr 2)) () (amt (kAr 2).val)))) := by
  rw [Pipeline.launchCred_of_sum O₀ (fun d => owe (owed d)) owed_sum owed_own c]
  unfold owed
  have h1 (x : GSem nD τ sig × ℕ) (l : List (GSem nD τ sig × ℕ)) : (cred (owe (x :: l)) : sProp 𝕄) ⊢ iprop(cred (tallyAt x.1 () x.2) ∗ cred (owe l)) := by
    refine (show _ ⊢ (cred (owe l + tallyAt x.1 () x.2) : sProp 𝕄) from Entails.refl _).trans ?_
    iintro H
    ihave H' := ((cred_add (owe l) (tallyAt x.1 () x.2)).1) $$ H
    icases H' with ⟨H1, H2⟩
    isplitl [H2]; · iexact H2
    iexact H1
  have h3 : iprop(cred (tallyAt (cell c kB) () 1) ∗ cred (tallyAt (cell c kB) () 1) ∗ cred (tallyAt (cell c kB) () 1)) ⊢ (cred (tallyAt (cell c kB) () 3) : sProp 𝕄) := by
    rw [show (tallyAt (cell c kB) () 3 : CellTallies nD τ sig Unit) = tallyAt (cell c kB) () 1 + (tallyAt (cell c kB) () 1 + tallyAt (cell c kB) () 1) from by
      rw [tallyAt_add, tallyAt_add]]
    iintro ⟨A, B, C⟩
    iapply (cred_add _ _).2
    isplitl [A]; · iexact A
    iapply (cred_add _ _).2
    isplitl [B]; · iexact B
    iexact C
  iintro H
  ihave H := (h1 _ _) $$ H
  icases H with ⟨C0, H⟩
  ihave H := (h1 _ _) $$ H
  icases H with ⟨C1, H⟩
  ihave H := (h1 _ _) $$ H
  icases H with ⟨C2, H⟩
  ihave H := (h1 _ _) $$ H
  icases H with ⟨C3, H⟩
  ihave H := (h1 _ _) $$ H
  icases H with ⟨C4, H⟩
  ihave H := (h1 _ _) $$ H
  icases H with ⟨C5, H⟩
  ihave H := (h1 _ _) $$ H
  icases H with ⟨C6, H⟩
  ihave H := (h1 _ _) $$ H
  icases H with ⟨C7, H⟩
  ihave H := (h1 _ _) $$ H
  icases H with ⟨C8, H⟩
  ihave H := (h1 _ _) $$ H
  icases H with ⟨C9, H⟩
  ihave H := (h1 _ _) $$ H
  icases H with ⟨C10, H⟩
  ihave H := (h1 _ _) $$ H
  icases H with ⟨C11, H⟩
  isplitl [C0 C1 C2]; · iapply h3 $$ [$C0 $C1 $C2]
  simp only [amt_Yr, amt_Ar]
  isplitl [C5 C6 C3 C4 C7 C8]
  · isplitl [C5]; · iexact C5
    isplitl [C6]; · iexact C6
    isplitl [C3]; · iexact C3
    isplitl [C4]; · iexact C4
    isplitl [C7]; · iexact C7
    iexact C8
  isplitl [C9]; · iexact C9
  isplitl [C10]; · iexact C10
  iexact C11

theorem places (c : Dev nD) : (bigSep Finset.univ fun k : Fin 21 => (atPos ER (cell c k) 0 ∅ 0 : sProp 𝕄))
    ⊢ iprop(atPos ER (cell c kB) 0 ∅ 0 ∗ atPos ER (cell c (kW 0)) 0 ∅ 0 ∗ atPos ER (cell c (kW 1)) 0 ∅ 0 ∗ atPos ER (cell c (kYs 0 0)) 0 ∅ 0 ∗ atPos ER (cell c (kYs 0 1)) 0 ∅ 0 ∗ atPos ER (cell c (kYs 1 0)) 0 ∅ 0 ∗ atPos ER (cell c (kYs 1 1)) 0 ∅ 0 ∗ atPos ER (cell c (kYs 2 0)) 0 ∅ 0 ∗ atPos ER (cell c (kYs 2 1)) 0 ∅ 0 ∗ atPos ER (cell c (kYr 0 0)) 0 ∅ 0 ∗ atPos ER (cell c (kYr 0 1)) 0 ∅ 0 ∗ atPos ER (cell c (kYr 1 0)) 0 ∅ 0 ∗ atPos ER (cell c (kYr 1 1)) 0 ∅ 0 ∗ atPos ER (cell c (kYr 2 0)) 0 ∅ 0 ∗ atPos ER (cell c (kYr 2 1)) 0 ∅ 0 ∗ atPos ER (cell c (kAs 0)) 0 ∅ 0 ∗ atPos ER (cell c (kAs 1)) 0 ∅ 0 ∗ atPos ER (cell c (kAs 2)) 0 ∅ 0 ∗ atPos ER (cell c (kAr 0)) 0 ∅ 0 ∗ atPos ER (cell c (kAr 1)) 0 ∅ 0 ∗ atPos ER (cell c (kAr 2)) 0 ∅ 0) := by
  rw [bigSep_univ_eq_bigSepL [0, 1, 2, 3, 4, 5, 6, 7, 8, 9, 10, 11, 12, 13, 14, 15, 16, 17, 18, 19, 20] (by decide) (by decide)]
  exact Entails.refl _

/-- What a device is given at entry, from what the launch dealt it and its credits. -/
theorem given_intro (c : Dev nD) (K : Dev nD × Fin 21 → ℕ) :
    iprop(recs m K ∗ linear c ∗ Pipeline.launchCred O₀ c) ⊢ given (F := F) c := by
  unfold linear payToks given yTok aTok wTok ready
  iintro ⟨#HR, ⟨HP, ⟨TB0, TB1, TB2⟩, ⟨TW00, TW01, TW10, TW11⟩, ⟨TS00, TS01, TS10, TS11, TS20, TS21⟩, ⟨TR00, TR01, TR10, TR11, TR20, TR21⟩, ⟨Ts0, Ts1, Ts2⟩, ⟨Tr0, Tr1, Tr2⟩⟩, HC⟩
  ihave HP := (places (F := F) c) $$ HP
  icases HP with ⟨PB, PW0, PW1, PS00, PS01, PS10, PS11, PS20, PS21, PR00, PR01, PR10, PR11, PR20, PR21, Ps0, Ps1, Ps2, Pr0, Pr1, Pr2⟩
  ihave HC := (creds (F := F) c) $$ HC
  icases HC with ⟨CB, ⟨CR00, CR01, CR10, CR11, CR20, CR21⟩, ⟨Cr0, Cr1, Cr2⟩⟩
  isplitl [TB0 TB1 TB2 CB PB]
  · isplitl [TB2]; · iexact TB2
    isplitl [TB1]; · iexact TB1
    isplitl [TB0]; · iexact TB0
    isplitl [CB]; · iexact CB
    iexact PB
  isplitl [PW0 PW1 TW00 TW01 TW10 TW11]
  · isplitl [PW0 TW00]
    · isplitl [PW0]; · iexact PW0
      isplitr; · iapply (recs_reached m K c (kW 0)); iexact HR
      iexact TW00
    isplitl [PW1 TW10]
    · isplitl [PW1]; · iexact PW1
      isplitr; · iapply (recs_reached m K c (kW 1)); iexact HR
      iexact TW10
    isplitl [TW01]; · iexact TW01
    iexact TW11
  isplitl [PS00 TS00 TR00 PS01 TS01 TR01 PS10 TS10 TR10 PS11 TS11 TR11 PS20 TS20 TR20 PS21 TS21 TR21]
  · isplitl [PS00 TS00 TR00]
    · isplitl [PS00]; · iexact PS00
      isplitl [TS00]; · iexact TS00
      iexact TR00
    isplitl [PS01 TS01 TR01]
    · isplitl [PS01]; · iexact PS01
      isplitl [TS01]; · iexact TS01
      iexact TR01
    isplitl [PS10 TS10 TR10]
    · isplitl [PS10]; · iexact PS10
      isplitl [TS10]; · iexact TS10
      iexact TR10
    isplitl [PS11 TS11 TR11]
    · isplitl [PS11]; · iexact PS11
      isplitl [TS11]; · iexact TS11
      iexact TR11
    isplitl [PS20 TS20 TR20]
    · isplitl [PS20]; · iexact PS20
      isplitl [TS20]; · iexact TS20
      iexact TR20
    isplitl [PS21]; · iexact PS21
    isplitl [TS21]; · iexact TS21
    iexact TR21
  isplitl [Ps0 Ts0 Tr0 Ps1 Ts1 Tr1 Ps2 Ts2 Tr2]
  · isplitl [Ps0 Ts0 Tr0]
    · isplitl [Ps0]; · iexact Ps0
      isplitl [Ts0]; · iexact Ts0
      iexact Tr0
    isplitl [Ps1 Ts1 Tr1]
    · isplitl [Ps1]; · iexact Ps1
      isplitl [Ts1]; · iexact Ts1
      iexact Tr1
    isplitl [Ps2]; · iexact Ps2
    isplitl [Ts2]; · iexact Ts2
    iexact Tr2
  isplitl [CR00 PR00 CR01 PR01 CR10 PR10 CR11 PR11 CR20 PR20 CR21 PR21]
  · isplitl [CR00 PR00]
    · isplitl [CR00]; · iexact CR00
      iexact PR00
    isplitl [CR01 PR01]
    · isplitl [CR01]; · iexact CR01
      iexact PR01
    isplitl [CR10 PR10]
    · isplitl [CR10]; · iexact CR10
      iexact PR10
    isplitl [CR11 PR11]
    · isplitl [CR11]; · iexact CR11
      iexact PR11
    isplitl [CR20 PR20]
    · isplitl [CR20]; · iexact CR20
      iexact PR20
    isplitl [CR21]; · iexact CR21
    iexact PR21
  isplitl [Cr0 Pr0]
  · isplitl [Cr0]; · iexact Cr0
    iexact Pr0
  isplitl [Cr1 Pr1]
  · isplitl [Cr1]; · iexact Cr1
    iexact Pr1
  isplitl [Cr2]; · iexact Cr2
  iexact Pr2

end Cert.Exchange

end
-- ==== Proof.Launch.lean ====
/-
# The run

The launch on the mesh: from any memory with every counter at zero, every fair execution of the program ends with each device's
result at the column block computed, the arguments as they were and every counter at zero.
-/
module

public import proofs.«01_k».proof.Proof.Ghost
public import Idealize.ShloMosaic.Lib.Pipeline.CollectiveSegs

@[expose] public section

noncomputable section

namespace Cert.Exchange

open Cert.KernelIdeal Cert.KernelIdeal.Gen Cert.Own
open Idealize.ShloMosaic
open Idealize.ShloMosaic.TcCoe
open Idealize.SL Idealize.SL.RA
open scoped Idealize.SL.BI
open Idealize.SL.BI (sProp bigSep)
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
local notation "𝕄" => MT nD τ sig Unit (Elt F) ℕ UU ℕ
variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The memory at the launch. -/
def s₀ : MemSt nD τ sig (Elt F) := ⟨m, fun _ => 0, ρ⟩

/-- What device `c` enters the kernel with, beside its scratch buffers. -/
def start (c : Dev nD) : sProp 𝕄 := iprop((∃ K, recs m K ∗ given (F := F) c) ∗ weights m c)
def Φ₀ (c : Dev nD) : sProp 𝕄 := iprop(start m c ∗ scratch (F := F) c)
/-- What it leaves with. -/
def Φ₁ (c : Dev nD) : sProp 𝕄 := iprop(semVal (cell c kB) 0 ∗ zeros (F := F) c ∗ weights m c ∗ scratch (F := F) c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

def bodyPre (c : Dev nD) : sProp 𝕄 :=
  iprop(Φ₀ m c ∗ (dats m 0 c).owesAt () t₀.castSucc
    ∗ (∃ d, ownsTc c xM fullShare ((dats m 0 c).before (0 : Fin 2) t₀ d))
    ∗ (∃ d, ownsTc c oM fullShare ((dats m 0 c).before (1 : Fin 2) t₀ d)))

def bodyPost (c : Dev nD) : sProp 𝕄 :=
  iprop(Φ₁ m c ∗ (dats m 0 c).owesAt () t₀.succ ∗ ownsTc c xM fullShare (xstg m c) ∗ ownsTc c oM fullShare (outAt m c))

/-- The body's obligation on device `c`. -/
theorem body_obligation (c : Dev nD) : BodyObligation (dats (F := F) m 0 c) (defs₀ (F := F)) 𝒱₀ () Set.univ := fun t => by
  rw [fin_N t]
  rw [bigSep_W, bigSep_W]
  show bodyPre m c ⊢ wp frame (wpE (defs₀ (F := F)) 𝒱₀ c none) Set.univ
    (cc0_body (F := F) xM (Memref.isWhole_whole _) gM (Memref.isWhole_whole _) oM (Memref.isWhole_whole _) xbM (Memref.isWhole_whole _) wM (Memref.isWhole_whole _)
        yM (Memref.isWhole_whole _) rM (Memref.isWhole_whole _) sM (Memref.isWhole_whole _) aM (Memref.isWhole_whole _)
        cc0_scratch6 cc0_scratch7 cc0_scratch8 cc0_scratch9 cc0_scratch10) (fun _ => bodyPost m c)
  unfold bodyPre Φ₀ start
  iintro ⟨⟨⟨⟨%K, #HR, Hg⟩, HW⟩, HS⟩, Ho, ⟨%d0, Hx⟩, ⟨%d1, Hout⟩⟩
  rw [show (dats m 0 c).before (0 : Fin 2) t₀ d0 = xstg m c from by unfold Dat.before; rw [if_pos (fetch_0 t₀)]; rfl]
  unfold Dat.owesAt Pipeline.owesWithin
  icases Ho with ⟨%W, %hW, HO⟩
  rw [show (dats m 0 c).owed t₀.castSucc = owe (dues c) from rfl]
  ihave HO := (show owes (c : Thread nD τ) (owe (dues c)) W ⊢ (owesL c (dues c) : sProp 𝕄) from by
    unfold owesL; iintro H; iexists W; iexact H) $$ HO
  iapply (run m K c ((dats m 0 c).before (1 : Fin 2) t₀ d1)) $$ [$HR $HO $Hg $HW $HS $Hx $Hout]
  iintro ⟨HO, HB, HZ, HW, HS, Hx, Hout⟩
  rw [written_eq]
  unfold bodyPost Φ₁ Dat.owesAt Pipeline.owesWithin owesL
  rw [show (dats m 0 c).owed t₀.succ = owe [] from rfl]
  icases HO with ⟨%W', HO⟩
  isplitl [HB HZ HW HS]
  · isplitl [HB]; · iexact HB
    isplitl [HZ]; · iexact HZ
    isplitl [HW] <;> iassumption
  isplitl [HO]
  · iexists W'
    isplitr; · ipureintro; exact fun _ _ => Or.inl trivial
    iexact HO
  isplitl [Hx] <;> iassumption

/-! ## The launch -/

theorem ownSemFacts : Pipeline.OwnSemFacts cfg0.spec osem := by decide

theorem share_eq (c : Dev nD) (w : Fin cfg0.W) : (dats m 0 c).share w = fullShare := by unfold Dat.share; split <;> rfl

theorem any_whole (c : Dev nD) (b : Ref sig .tc) :
    (any c (Memref.whole b) : sProp 𝕄) = iprop(∃ f : Buf (Elt F) ((c : Thread nD τ).loc b), ((c : Thread nD τ).loc b) ↦{fullShare} f) := by
  refine BI.Entails.antisymm (show any c (Memref.whole b) ⊢ iprop(∃ f : Buf (Elt F) ((c : Thread nD τ).loc b), ((c : Thread nD τ).loc b) ↦{fullShare} f) from ?_)
    (show iprop(∃ f : Buf (Elt F) ((c : Thread nD τ).loc b), ((c : Thread nD τ).loc b) ↦{fullShare} f) ⊢ any c (Memref.whole b) from ?_)
  · iintro ⟨%X, H⟩
    unfold ownsTc owns
    icases H with ⟨%f, %hf, H⟩
    iexists f
    simp only [Memref.view_whole, View.set_whole]
    iexact H
  · iintro ⟨%f, H⟩
    iexists f
    unfold ownsTc owns
    simp only [Memref.view_whole, View.read_whole, View.set_whole]
    iexists f
    isplitr; · ipureintro; rfl
    iexact H

/-- The scratch buffers are the ones the launch scopes to the kernel. -/
theorem scratch_eq (c : Dev nD) : (Pipeline.scopedRest (Ix := Unit) (Name := ℕ) (U := UU) (Lvl := ℕ) (Val := Elt F) cfg0.spec c : sProp 𝕄) = scratch c := by
  unfold scratch
  rw [any_whole, any_whole, any_whole, any_whole, any_whole, any_whole]
  exact scopedRest0_eq c

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_eq_of_list cfg0.spec c Pipeline.Prefetch.none (fun b => m ((c : Thread nD τ).loc b)) [main_arg1] (by decide) (by decide),
    show BI.bigSepL [main_arg1] (fun b => ((c : Thread nD τ).loc b ↦{fullShare} m ((c : Thread nD τ).loc b) : sProp 𝕄)) = weights m c from rfl]
  unfold G' start facts0
  iintro ⟨HW, Hlev, Hcr, -, ⟨%K, ⟨HI, HRe⟩, HL⟩⟩
  imodintro
  isplitl
  · isplitr [HW]
    · iexists K
      ihave #HR := (show iprop((bigSep Finset.univ fun ck : Dev nD × Fin 21 => cellInv ER (Rd m) (K ck) (cell ck.1 ck.2))
          ∗ (bigSep Finset.univ fun ck : Dev nD × Fin 21 => reached ER (cell ck.1 ck.2) 0) ∗ levAts L lv) ⊢ recs m K from by
        unfold recs; exact BI.Entails.refl _) $$ [HI HRe Hlev]
      · isplitl [HI]; · iexact HI
        isplitl [HRe]; · iexact HRe
        iexact Hlev
      isplitr; · iexact HR
      iapply (given_intro m c K)
      isplitr; · iexact HR
      isplitl [HL]; · iexact HL
      iexact Hcr
    · iexact HW
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs]; · iexact Hs
  iexact Hr

theorem zeros_own (c : Dev nD) : (zeros c : sProp 𝕄)
    ⊢ Pipeline.ownSems0 (Ix := Unit) (Name := ℕ) (U := UU) (Lvl := ℕ) (Val := Elt F) (τ := τ) osem c := by
  rw [ownSems0_eq, BI.bigSep_univ_eq_bigSepL [0, 1, 2, 3, 4, 5, 6, 7, 8, 9, 10, 11, 12, 13, 14, 15, 16, 17, 18, 19] (by decide) (by decide)]
  refine BI.Entails.trans (show (zeros c : sProp 𝕄) ⊢ iprop(semVal (cell c (kW 0)) 0 ∗ semVal (cell c (kW 1)) 0 ∗ semVal (cell c (kYs 0 0)) 0 ∗ semVal (cell c (kYs 0 1)) 0 ∗ semVal (cell c (kYs 1 0)) 0 ∗ semVal (cell c (kYs 1 1)) 0 ∗ semVal (cell c (kYs 2 0)) 0 ∗ semVal (cell c (kYs 2 1)) 0 ∗ semVal (cell c (kYr 0 0)) 0 ∗ semVal (cell c (kYr 0 1)) 0 ∗ semVal (cell c (kYr 1 0)) 0 ∗ semVal (cell c (kYr 1 1)) 0 ∗ semVal (cell c (kYr 2 0)) 0 ∗ semVal (cell c (kYr 2 1)) 0 ∗ semVal (cell c (kAs 0)) 0 ∗ semVal (cell c (kAs 1)) 0 ∗ semVal (cell c (kAs 2)) 0 ∗ semVal (cell c (kAr 0)) 0 ∗ semVal (cell c (kAr 1)) 0 ∗ semVal (cell c (kAr 2)) 0) from ?_) (show iprop(semVal (cell c (kW 0)) 0 ∗ semVal (cell c (kW 1)) 0 ∗ semVal (cell c (kYs 0 0)) 0 ∗ semVal (cell c (kYs 0 1)) 0 ∗ semVal (cell c (kYs 1 0)) 0 ∗ semVal (cell c (kYs 1 1)) 0 ∗ semVal (cell c (kYs 2 0)) 0 ∗ semVal (cell c (kYs 2 1)) 0 ∗ semVal (cell c (kYr 0 0)) 0 ∗ semVal (cell c (kYr 0 1)) 0 ∗ semVal (cell c (kYr 1 0)) 0 ∗ semVal (cell c (kYr 1 1)) 0 ∗ semVal (cell c (kYr 2 0)) 0 ∗ semVal (cell c (kYr 2 1)) 0 ∗ semVal (cell c (kAs 0)) 0 ∗ semVal (cell c (kAs 1)) 0 ∗ semVal (cell c (kAs 2)) 0 ∗ semVal (cell c (kAr 0)) 0 ∗ semVal (cell c (kAr 1)) 0 ∗ semVal (cell c (kAr 2)) 0) ⊢ _ from BI.Entails.refl _)
  unfold zeros
  iintro ⟨⟨W0, W1⟩, ⟨S00, S01, S10, S11, S20, S21⟩, ⟨R00, R01, R10, R11, R20, R21⟩, ⟨s0, s1, s2⟩, ⟨r0, r1, r2⟩⟩
  isplitl [W0]; · iexact W0
  isplitl [W1]; · iexact W1
  isplitl [S00]; · iexact S00
  isplitl [S01]; · iexact S01
  isplitl [S10]; · iexact S10
  isplitl [S11]; · iexact S11
  isplitl [S20]; · iexact S20
  isplitl [S21]; · iexact S21
  isplitl [R00]; · iexact R00
  isplitl [R01]; · iexact R01
  isplitl [R10]; · iexact R10
  isplitl [R11]; · iexact R11
  isplitl [R20]; · iexact R20
  isplitl [R21]; · iexact R21
  isplitl [s0]; · iexact s0
  isplitl [s1]; · iexact s1
  isplitl [s2]; · iexact s2
  isplitl [r0]; · iexact r0
  isplitl [r1]; · iexact r1
  iexact r2

theorem phi1_exit (c : Dev nD) :
    (dats m 0 c).Φ (Fin.last cfg0.N) ⊢ iprop((unscopedSems0 c ∗ weights m c) ∗ Pipeline.ownSems0 osem c ∗ Pipeline.scopedRest cfg0.spec c) := by
  rw [show (dats m 0 c).Φ (Fin.last cfg0.N) = Φ₁ m c from rfl, scratch_eq, unscopedSems0_eq]
  unfold Φ₁
  iintro ⟨HB, HZ, HW, HS⟩
  isplitl [HB HW]
  · isplitl [HB]; · iexact HB
    iexact HW
  isplitl [HZ]; · iapply (zeros_own (F := F) c); iexact HZ
  iexact HS

theorem waits (c : Dev nD) : (levAts L lv : sProp 𝕄) ⊢ Pipeline.cellsWaits cfgs (dats m) () 0 c :=
  Pipeline.cellsWaits_intro cfgs (dats m) () 0 c fun w s t => by
    have hl : ∃ l, (dats m 0 c).owed t = owe l ∧ Above 0 l := by
      rcases t with ⟨_ | _, ht⟩
      · exact ⟨dues c, rfl, above_dues c⟩
      · exact ⟨[], rfl, fun x hx => absurd hx List.not_mem_nil⟩
    obtain ⟨l, e, hl⟩ := hl
    rw [e]
    exact mayWait c _ 0 (by fin_cases w <;> fin_cases s <;> decide) l hl

/-! ## The run -/

/-- What a window's array holds at the end. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg1) = m ((c : Thread nD τ).loc main_arg1)

set_option maxRecDepth 8000 in
/-- From any memory with every counter at zero, every fair execution of the program on the four devices ends, with each device's
    windows' arrays at what is computed, its weights as they were, and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => iprop(unscopedSems0 c ∗ weights m c)) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨⟨Hu, HW⟩, -, HSI⟩
      imod (Pipeline.unscopedSems0_read (X := unscopedSems0 c) (c := c) BI.fupd_intro s') $$ [Hu HSI] with ⟨%h1, HSI⟩
      · isplitl [Hu] <;> iassumption
      ihave H := (pointsTo_read_all (Ix := Unit) (Name := ℕ) (U := UU) (Lvl := ℕ) ({()} : Finset Unit) (fun _ => (c : Thread nD τ).loc main_arg1)
        (fun _ => m ((c : Thread nD τ).loc main_arg1)) s') $$ [HW HSI]
      · isplitl [HW]
        · rw [BI.bigSep_singleton]; unfold weights; iexact HW
        · iexact HSI
      icases H with ⟨%h2, HSI⟩
      imodintro
      isplitr
      · ipureintro; exact ⟨h1, h2 () (Finset.mem_singleton_self _)⟩
      · iexact HSI)
    (hQ := fun _ h hs => ⟨fun c => ⟨fun w => (h c).1 w, (h c).2.2.2⟩, sem_eq_zero hs fun c => (h c).2.2.1⟩)

/-- The activations are as they were, -/
theorem finalA_x (c : Dev nD) : finalA m c (0 : Fin 2) = m (win0_0.arr.view.loc (c : Thread nD τ)) :=
  (dats (F := F) m 0 c).arrAt_in (0 : Fin 2) rfl _

/-- and the result is what each device computed. -/
theorem finalA_o (c : Dev nD) : finalA m c (1 : Fin 2) = outAt m c := by
  have ho : (win0_1.blk (0 : Fin 1)).view.read (Elt F) (finalA m c (1 : Fin 2)) = outAt m c := by
    unfold finalA
    rw [show cfg0.N = ((0 : Fin 1) : Fin cfg0.N).val + 1 from rfl, (dats m 0 c).arrAt_succ (1 : Fin 2) (0 : Fin 1)]
    rw [show (cfg0.win (1 : Fin 2)).flush (0 : Fin 1) = true from by decide, if_pos rfl]
    exact View.read_write_univ _ _
  have hz : (fun a => (win0_1.index (0 : Fin 1)) a * main_v1.ty.shape.size a) = fun _ => 0 :=
    funext fun a => by fin_cases a <;> decide
  exact (Memref.read_access_unit_zero (Elt F) main_v1 hz (fun a => by fin_cases a <;> decide) (finalA m c (1 : Fin 2))).symm.trans ho

/-- A device's activations, staged whole, are its argument. -/
theorem xstg_eq (c : Dev nD) : xstg m c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) (m ((c : Thread nD τ).loc main_arg0))

/-- From any memory with every counter at zero, every fair execution ends with each device's result at `outAt`, both its arguments
    as they were, and every counter at zero. -/
theorem run_result : θ_run defs (onTc (τ := τ) (main (F := F))) ⟨m, fun _ => 0, ρ⟩ (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h => ⟨fun c => ⟨((h.1 c).1 (1 : Fin 2)).trans (finalA_o m c), ((h.1 c).1 (0 : Fin 2)).trans (finalA_x m c), (h.1 c).2⟩, h.2⟩)
    (run_main m ρ)

end Cert.Exchange

end
-- ==== Proof.Product.lean ====
/-
# The blocks as parts of one product

At the extended reals, where each device's activations are its rows of one whole array and every device has the same weights: half `h`
of block `j` of device `o` holds the entries of the whole product in rows `1024 o + 512 h` on and columns `512 d` on, `d` the device
the block is for.
-/
module

public import proofs.«01_k».proof.Proof.Launch
public import Idealize.ShloMosaic.Lib.MatmulPlain
public import Idealize.ShloMosaic.PureOps.Ideal.Laws

@[expose] public section

noncomputable section

namespace Cert.Exchange

open Cert.KernelIdeal Cert.KernelIdeal.Gen
open Idealize.ShloMosaic
open Idealize.ShloMosaic.TcCoe

/-- Entry `(i, n)` of the product of `X` and `W`. -/
def prod (X : (⟨2, ![4096, 4096]⟩ : Shape).Idx → EReal) (W : (⟨2, ![4096, 2048]⟩ : Shape).Idx → EReal) (i : Fin 4096) (n : Fin 2048) : EReal :=
  ∑ k : Fin 4096, X (ix2 i k) * W (ix2 k n)

variable (m : (ℓ : Loc nD τ sig) → Buf (Elt Ideal) ℓ)

/-- Device `c`'s activations and weights, as arrays of extended reals. -/
def xOf (c : Dev nD) : (⟨2, ![1024, 4096]⟩ : Shape).Idx → EReal := m ((c : Thread nD τ).loc main_arg0)
def wOf (c : Dev nD) : (⟨2, ![4096, 2048]⟩ : Shape).Idx → EReal := m ((c : Thread nD τ).loc main_arg1)

/-- The row of the whole array that row `r` of half `h` on device `o` is. -/
def row (o : Dev nD) (h : Fin 2) (r : Fin 512) : Fin 4096 :=
  ⟨1024 * o.val + 512 * h.val + r.val, by have := o.isLt; have : o.val < 4 := this; omega⟩
/-- The column of the whole array that column `l` of the block for device `d` is. -/
def col (d : Dev nD) (l : Fin 512) : Fin 2048 := ⟨512 * d.val + l.val, by have := d.isLt; have : d.val < 4 := this; omega⟩

theorem xh_at (c : Dev nD) (h : Fin 2) (r : Fin 512) (k : Fin 4096) :
    xh m c h (ix2 r k) = xOf m c
      (ix2 (n0 := 1024) (n1 := 4096) ⟨512 * h.val + r.val, by omega⟩ k) := by
  have e : k0_pay1 (xstg m c) = xstg m c := by
    unfold k0_pay1
    exact (shapeCast_self (s := S1024x4096) (truncf .bf16 (shapeCast S1024x4096 (xstg m c) shapeCasts_S1024x4096_S1024x4096) bitsLt_bf16_f32) shapeCasts_S1024x4096_S1024x4096).trans
      (congrArg (fun v : FVec Ideal S1024x4096 .f32 => truncf .bf16 v bitsLt_bf16_f32) (shapeCast_self (s := S1024x4096) (xstg m c) shapeCasts_S1024x4096_S1024x4096))
  show k0_pay1 (xstg m c) ((xR h).emb (ix2 r k)) = _
  rw [e, xstg_eq]
  refine congrArg (m ((c : Thread nD τ).loc main_arg0)) ?_
  funext a; apply Fin.ext
  refine (Rect.emb_apply (xR h) _ a).trans ?_
  match a with
  | ⟨0, _⟩ => show 512 * h.val + 1 * r.val = 512 * h.val + r.val; omega
  | ⟨1, _⟩ => show 0 + 1 * k.val = k.val; omega

theorem wb_at (c : Dev nD) (j : Fin 4) (k : Fin 4096) (l : Fin 512) :
    k0_pay2 (wb m c j) (ix2 k l) = wOf m c (ix2 (n0 := 4096) (n1 := 2048) k (col (dest c j) l)) := by
  have e : k0_pay2 (wb m c j) = wcol m c j := by
    funext i
    exact congrArg (wcol m c j) (Equiv.symm_apply_apply (Shape.reshapeEquiv squeezes_S1x4096x512_S4096x512.numel_eq) i)
  rw [e]
  show m ((c : Thread nD τ).loc main_arg1) ((gR c j).emb (ix2 k l)) = _
  refine congrArg (m ((c : Thread nD τ).loc main_arg1)) ?_
  funext a; apply Fin.ext
  refine (Rect.emb_apply (gR c j) _ a).trans ?_
  show k0_off1 c (BitVec.ofNat 32 (off j).val) a + 1 * _ = _
  rw [off1_eq]
  match a with
  | ⟨0, _⟩ => show 0 + 1 * k.val = k.val; omega
  | ⟨1, _⟩ => show 512 * (dest c j).val + 1 * l.val = 512 * (dest c j).val + l.val; omega

/-- A block's entry as a sum of products of the device's own arguments. -/
theorem Yf_sum (c : Dev nD) (j : Fin 4) (h : Fin 2) (r l : Fin 512) :
    Yf m c j h (ix2 r l) = ∑ k : Fin 4096,
      xOf m c (ix2 (n0 := 1024) (n1 := 4096) ⟨512 * h.val + r.val, by omega⟩ k)
        * wOf m c (ix2 (n0 := 4096) (n1 := 2048) k (col (dest c j) l)) := by
  unfold Yf k0_pay3
  refine (Ideal.matmul_plain_apply (M := 512) (K := 4096) (N := 512) none (xh m c h) (k0_pay2 (wb m c j)) (constant S512x512 .f32 0x00000000#32) r l).trans ?_
  show Ideal.ofBits .f32 0x00000000#32 + _ = _
  rw [Ideal.ofBits_zero_f32, zero_add]
  exact Finset.sum_congr rfl fun k _ => congrArg₂ (· * ·) (xh_at m c h r k) (wb_at m c j k l)

variable (X : (⟨2, ![4096, 4096]⟩ : Shape).Idx → EReal) (W : (⟨2, ![4096, 2048]⟩ : Shape).Idx → EReal)

/-- Every device's arguments are its part of the whole ones. -/
def Parts : Prop := ∀ c : Dev nD, m ((c : Thread nD τ).loc main_arg0) = Layout.block ⟨2, ![1024, 4096]⟩ ⟨2, ![4096, 4096]⟩ 0 4 c X
  ∧ m ((c : Thread nD τ).loc main_arg1) = W

variable {m X W}

/-- A block's entry is the whole product's. -/
theorem Yf_at (H : Parts m X W) (c : Dev nD) (j : Fin 4) (h : Fin 2) (r l : Fin 512) :
    Yf m c j h (ix2 r l) = prod X W (row c h r) (col (dest c j) l) := by
  rw [Yf_sum]
  unfold prod
  refine Finset.sum_congr rfl fun k _ => ?_
  rw [show xOf m c = Layout.block ⟨2, ![1024, 4096]⟩ ⟨2, ![4096, 4096]⟩ 0 4 c X from (H c).1, show wOf m c = W from (H c).2]
  refine congrArg (· * _) (congrArg X ?_)
  funext a; apply Fin.ext
  match a with
  | ⟨0, _⟩ => show c.val * 1024 + (512 * h.val + r.val) = 1024 * c.val + 512 * h.val + r.val; omega
  | ⟨1, _⟩ => rfl

/-- The same entry as the buffer of the blocks holds it. -/
theorem Y_at (H : Parts m X W) (c : Dev nD) (j : Fin 4) (h : Fin 2) (r l : Fin 512) :
    Y m c j h (ix3 (n0 := 1) (n1 := 512) (n2 := 512) 0 r l) = prod X W (row c h r) (col (dest c j) l) := by
  refine Eq.trans ?_ (Yf_at H c j h r l)
  show shapeCast S1x512x512 (Yf m c j h) shapeCasts_S512x512_S1x512x512 (ix3 0 r l) = _
  exact ValueIdx.shapeCast_ab_1ab_apply (Yf m c j h) shapeCasts_S512x512_S1x512x512 0 r l

/-- Every row is some device's, in one of its halves, -/
theorem exists_row (i : Fin 4096) : ∃ (o : Dev nD) (h : Fin 2) (r : Fin 512), i = row o h r :=
  ⟨⟨i.val / 1024, by show _ < 4; omega⟩, ⟨i.val % 1024 / 512, by omega⟩, ⟨i.val % 512, by omega⟩, Fin.ext (by
    show i.val = 1024 * (i.val / 1024) + 512 * (i.val % 1024 / 512) + i.val % 512; omega)⟩

/-- and every column is in the block some device makes for some device. -/
theorem exists_col (o : Dev nD) (n : Fin 2048) : ∃ (j : Fin 4) (l : Fin 512), n = col (dest o j) l :=
  ⟨blkTo ⟨n.val / 512, by show _ < 4; omega⟩ o, ⟨n.val % 512, by omega⟩, by
    rw [dest_blkTo]; exact Fin.ext (by show n.val = 512 * (n.val / 512) + n.val % 512; omega)⟩

end Cert.Exchange

end
-- ==== Proof.Quant.lean ====
/-
# Quantising by a quotient and by a factor

Over the extended reals: a value divided by `M / c`, and the same value times `c / M`, round to the same multiple once each is clipped
and scaled by `M / c` again — whatever `M`, as long as it is at least the value's magnitude. At `M = 0` the value is zero and so
is the step; at `M = ⊤` the factor is zero and the quotient is zero; in between the two are one real number.
-/
module

public import Idealize.ShloMosaic.PureOps.Ideal
public import Idealize.ShloMosaic.PureOps.Ideal.Laws

@[expose] public section

noncomputable section

namespace Cert.Exchange

open Idealize.ShloMosaic

/-- The value of the pattern the programs spell for the greatest quantised magnitude. -/
theorem c127 : Ideal.ofBits .f32 0x42FE0000#32 = ((127 : ℝ) : EReal) := by
  have h1 : ((0x42FE0000#32).extractLsb' 23 8).toNat = 133 := by decide
  have h2 : ((0x42FE0000#32).extractLsb' 0 23).toNat = 8257536 := by decide
  have h3 : ((0x42FE0000#32).extractLsb' 31 1 == 1#1) = false := by decide
  unfold Ideal.ofBits Ideal.ieee
  simp only [show (8 + 23 : ℕ) = 31 from rfl, h1, h2, h3]
  norm_num

/-- The pattern a maximum starts from is the least extended real. -/
theorem cbot : Ideal.ofBits .f32 0xFF800000#32 = ⊥ := by
  have h1 : ((0xFF800000#32).extractLsb' 23 8).toNat = 255 := by decide
  have h2 : ((0xFF800000#32).extractLsb' 0 23).toNat = 0 := by decide
  have h3 : ((0xFF800000#32).extractLsb' 31 1 == 1#1) = true := by decide
  unfold Ideal.ofBits Ideal.ieee
  simp only [show (8 + 23 : ℕ) = 31 from rfl, h1, h2, h3]
  norm_num

/-- A quantised value: rounded, clipped between `lo` and `hi`, times the step. -/
def qd (lo hi s t : EReal) : EReal := min hi (max lo (Ideal.liftRound Ideal.roundHalfEven t)) * s

/-- The two ways to the quantised range agree: times `c / M` and divided by `M / c`. -/
theorem qd_eq (lo hi M y : EReal) (c : ℝ) (hc : 0 < c) (hy : max y (-y) ≤ M) :
    qd lo hi (Ideal.div M c) (y * Ideal.div c M) = qd lo hi (Ideal.div M c) (Ideal.div y (Ideal.div M c)) := by
  have hc0 : (c : EReal) ≠ 0 := by exact_mod_cast hc.ne'
  have hM0 : 0 ≤ M := by
    rcases le_total 0 y with h | h
    · exact h.trans ((le_max_left _ _).trans hy)
    · exact (EReal.neg_nonneg.2 h).trans ((le_max_right _ _).trans hy)
  have es : Ideal.div M c = M * (c : EReal)⁻¹ := by unfold Ideal.div; rw [if_neg hc0]
  rw [es]
  induction M with
  | bot => exact absurd hM0 (by simp)
  | top =>
    have e1 : (⊤ : EReal) * (c : EReal)⁻¹ = ⊤ := by
      rw [← EReal.coe_inv]; exact EReal.top_mul_coe_of_pos (inv_pos.2 hc)
    rw [e1]
    have e2 : Ideal.div (c : EReal) ⊤ = 0 := by unfold Ideal.div; rw [if_neg (by simp)]; simp
    have e3 : Ideal.div y ⊤ = y * 0 := by unfold Ideal.div; rw [if_neg (by simp)]; simp
    rw [e2, e3]
  | coe M =>
    have hMr : 0 ≤ M := by exact_mod_cast hM0
    have hlo : -(M : EReal) ≤ y := by
      have := (le_max_right _ _).trans hy
      exact EReal.neg_le.1 this
    have hhi : y ≤ M := (le_max_left _ _).trans hy
    induction y with
    | bot => exact absurd hlo (by rw [← EReal.coe_neg]; simp)
    | top => exact absurd hhi (by simp)
    | coe y =>
      have es : (M : EReal) * (c : EReal)⁻¹ = ((M * c⁻¹ : ℝ) : EReal) := by rw [← EReal.coe_inv, ← EReal.coe_mul]
      rw [es]
      rcases hMr.eq_or_lt with h | h
      · subst h
        unfold qd
        simp
      · have hs : ((M * c⁻¹ : ℝ) : EReal) ≠ 0 := by exact_mod_cast (mul_pos h (inv_pos.2 hc)).ne'
        have hm : (M : EReal) ≠ 0 := by exact_mod_cast h.ne'
        have e1 : (y : EReal) * Ideal.div c M = ((y * (c * M⁻¹) : ℝ) : EReal) := by
          unfold Ideal.div; rw [if_neg hm, ← EReal.coe_inv, ← EReal.coe_mul, ← EReal.coe_mul]
        have e2 : Ideal.div (y : EReal) ((M * c⁻¹ : ℝ) : EReal) = ((y * (M * c⁻¹)⁻¹ : ℝ) : EReal) := by
          unfold Ideal.div; rw [if_neg hs, ← EReal.coe_inv, ← EReal.coe_mul]
        rw [e1, e2]
        congr 3
        field_simp

end Cert.Exchange

end
-- ==== Proof.Equation.lean ====
/-
# The equation

At the extended reals the kernel's result, entry by entry, is the quantised product: the maximum each device gathers is the largest
magnitude of the whole product, and the factor `127 / max` it multiplies by does what dividing by the step `max / 127` does.
-/
module

public import proofs.«01_k».proof.Proof.Product
public import proofs.«01_k».proof.Proof.Quant
public import Idealize.ShloMosaic.PureOps.Reduce

@[expose] public section

noncomputable section

namespace Cert.Exchange

open Cert.KernelIdeal Cert.KernelIdeal.Gen
open Idealize.ShloMosaic
open Idealize.ShloMosaic.TcCoe

/-- A magnitude. -/
def mag (x : EReal) : EReal := max x (-x)

theorem mag_nonneg (x : EReal) : 0 ≤ mag x := by
  rcases le_total 0 x with h | h
  · exact h.trans (le_max_left _ _)
  · exact (EReal.neg_nonneg.2 h).trans (le_max_right _ _)

/-- The largest magnitude of the product. -/
def mx (X : (⟨2, ![4096, 4096]⟩ : Shape).Idx → EReal) (W : (⟨2, ![4096, 2048]⟩ : Shape).Idx → EReal) : EReal :=
  ⨆ i : Fin 4096, ⨆ n : Fin 2048, mag (prod X W i n)

theorem mx_le (X : (⟨2, ![4096, 4096]⟩ : Shape).Idx → EReal) (W : (⟨2, ![4096, 2048]⟩ : Shape).Idx → EReal) (b : EReal) :
    mx X W ≤ b ↔ ∀ i n, mag (prod X W i n) ≤ b := by
  unfold mx; simp only [iSup_le_iff]

/-- The quantised product. -/
def quantised (X : (⟨2, ![4096, 4096]⟩ : Shape).Idx → EReal) (W : (⟨2, ![4096, 2048]⟩ : Shape).Idx → EReal) (i : Fin 4096) (n : Fin 2048) : EReal :=
  qd (Ideal.ofBits .f32 0xC2FE0000#32) (Ideal.ofBits .f32 0x42FE0000#32) (Ideal.div (mx X W) (Ideal.ofBits .f32 0x42FE0000#32))
    (Ideal.div (prod X W i n) (Ideal.div (mx X W) (Ideal.ofBits .f32 0x42FE0000#32)))

/-- A maximum taken over every axis is bounded just when every entry is. -/
theorem reduce_le {s t : Shape} {axes : List (Fin s.rank)} (src : FVec Ideal s .f32) (h : s.Reduces axes t) (hφ : FKind.Formats .f32)
    (hacc : 0xFF800000#32 = FKind.maximumf.neutral .f32 hφ) (j : t.Idx) (ht : ∀ a, t.size a = 1) (b : EReal) :
    (multiReduction .maximumf axes t src 0xFF800000#32 h hφ hacc j : EReal) ≤ b ↔ ∀ i, src i ≤ b := by
  have one (i : s.Idx) : h.drop i = j := funext fun a => Fin.ext (by
    have h1 := (h.drop i a).isLt; have h2 := (j a).isLt; have := ht a; omega)
  rw [multiReduction_maximumf_eq_fold]
  show (Finset.univ.filter fun i => h.drop i = j).fold max (Ideal.ofBits .f32 0xFF800000#32) src ≤ b ↔ _
  rw [Finset.fold_max_le, cbot]
  simp [one]

/-- The same of that maximum taken out as a scalar. -/
theorem reduce_all_le {s t u : Shape} {axes : List (Fin s.rank)} (src : FVec Ideal s .f32) (h : s.Reduces axes t) (hφ : FKind.Formats .f32)
    (hacc : 0xFF800000#32 = FKind.maximumf.neutral .f32 hφ) (ht : ∀ a, t.size a = 1) (hc : t.ShapeCasts u) (pos : Fin u.rank → ℕ)
    (hp : ∀ a, pos a < u.size a) (b : EReal) :
    (extractAt pos (shapeCast u (multiReduction .maximumf axes t src 0xFF800000#32 h hφ hacc) hc) hp : EReal) ≤ b ↔ ∀ i, src i ≤ b :=
  reduce_le src h hφ hacc _ ht b

/-- The operations on scalars, at the extended reals. -/
theorem absf_at {s : Shape} (y : FVec Ideal s .f32) (i : s.Idx) : (absf y i : EReal) = mag (y i) := rfl
theorem maximumf_eq (a b : EReal) : (Scalar.maximumf (F := Ideal) (φ := .f32) a b : EReal) = max a b := rfl
theorem divf_eq (a b : EReal) : (Scalar.divf (F := Ideal) (φ := .f32) a b : EReal) = Ideal.div a b := rfl

variable (m : (ℓ : Loc nD τ sig) → Buf (Elt Ideal) ℓ)

/-- A half's magnitude is bounded just when its entries' are. -/
theorem hmax_le (y : FVec Ideal S512x512 .f32) (b : EReal) : (hmax y : EReal) ≤ b ↔ ∀ r l : Fin 512, mag (y (ix2 r l)) ≤ b := by
  unfold hmax
  refine (reduce_all_le (shapeCast S1x512x512 (absf y) shapeCasts_S512x512_S1x512x512) reduces_S1x512x512_S1 (.inl rfl) rfl
    (fun | ⟨0, _⟩ => rfl) shapeCasts_S1_S1x1x1 _ inpos_S1x1x1_p0_0_0 b).trans ?_
  constructor
  · intro H r l
    have h1 := H (ix3 (n0 := 1) (n1 := 512) (n2 := 512) 0 r l)
    have h2 := ValueIdx.shapeCast_ab_1ab_apply (absf y) shapeCasts_S512x512_S1x512x512 0 r l
    exact ((absf_at y (ix2 r l)).symm.trans h2.symm).le.trans h1
  · intro H i
    have e := eq_ix2 (n0 := 512) (n1 := 512) (Shape.reshapeEquiv shapeCasts_S512x512_S1x512x512 i)
    refine (absf_at y (Shape.reshapeEquiv shapeCasts_S512x512_S1x512x512 i)).le.trans ?_
    rw [e]; exact H _ _

theorem pm_zero (c : Dev nD) : (pm m c 0 : EReal) = 0 := Ideal.ofBits_zero_f32
theorem pm_succ (c : Dev nD) (n : ℕ) : (pm m c (n + 1) : EReal) = max (pm m c n : EReal) (hmax (Yf m c (Fin.ofNat 4 (n / 2)) (Fin.ofNat 2 (n % 2)))) :=
  maximumf_eq (pm m c n) (hmax (Yf m c (Fin.ofNat 4 (n / 2)) (Fin.ofNat 2 (n % 2))))

/-- The largest magnitude of a device's first `n` halves. -/
theorem pm_le (c : Dev nD) (b : EReal) (n : ℕ) : (pm m c n : EReal) ≤ b ↔
    0 ≤ b ∧ ∀ t < n, ∀ r l : Fin 512, mag (Yf m c (Fin.ofNat 4 (t / 2)) (Fin.ofNat 2 (t % 2)) (ix2 r l)) ≤ b := by
  induction n with
  | zero => rw [pm_zero]; exact ⟨fun h => ⟨h, fun t ht => absurd ht (Nat.not_lt_zero t)⟩, fun h => h.1⟩
  | succ n ih =>
    rw [pm_succ, max_le_iff, ih, hmax_le]
    constructor
    · rintro ⟨⟨h0, h⟩, h'⟩
      refine ⟨h0, fun t ht => ?_⟩
      rcases Nat.lt_succ_iff_lt_or_eq.1 ht with ht | rfl
      · exact h t ht
      · exact h'
    · rintro ⟨h0, h⟩
      exact ⟨⟨h0, fun t ht => h t (by omega)⟩, h n (by omega)⟩

theorem am_le (c : Dev nD) (b : EReal) : (am m c : EReal) ≤ b ↔ 0 ≤ b ∧ ∀ j h, ∀ r l : Fin 512, mag (Yf m c j h (ix2 r l)) ≤ b := by
  unfold am
  rw [pm_le]
  refine and_congr_right fun _ => ⟨fun H j h r l => ?_, fun H t _ r l => H _ _ r l⟩
  have := H (2 * j.val + h.val) (by omega) r l
  rwa [show (Fin.ofNat 4 ((2 * j.val + h.val) / 2) : Fin 4) = j from Fin.ext (by show _ % 4 = _; omega),
    show (Fin.ofNat 2 ((2 * j.val + h.val) % 2) : Fin 2) = h from Fin.ext (by show _ % 2 = _; omega)] at this

variable {m} {X : (⟨2, ![4096, 4096]⟩ : Shape).Idx → EReal} {W : (⟨2, ![4096, 2048]⟩ : Shape).Idx → EReal}

theorem sub_sub_dev : ∀ c o : Fin 4, c - Fin.ofNat 4 (c - o).val = o := by decide

/-- The maximum each device takes over the gathered magnitudes is that of the whole product. -/
theorem max_eq (H : Parts m X W) (c : Dev nD) : (k0_pay35 (amAll m c) : EReal) = mx X W := by
  refine eq_of_forall_ge_iff fun b => ?_
  unfold k0_pay35
  refine (reduce_all_le (shapeCast S1x4x8x128 (amAll m c) shapeCasts_S4x8x128_S1x4x8x128) reduces_S1x4x8x128_S1 (.inl rfl) rfl
    (fun | ⟨0, _⟩ => rfl) shapeCasts_S1_S1x1x1x1 _ inpos_S1x1x1x1_p0_0_0_0 b).trans ?_
  rw [mx_le]
  constructor
  · intro A i n
    obtain ⟨o, h, r, rfl⟩ := exists_row i
    obtain ⟨j, l, rfl⟩ := exists_col o n
    have ho := (c - o).isLt
    have ho4 : (c - o).val < 4 := ho
    have := A ((Shape.reshapeEquiv shapeCasts_S4x8x128_S1x4x8x128).symm (ix3 (n0 := 4) (n1 := 8) (n2 := 128) ⟨(c - o).val, ho4⟩ 0 0))
    rw [show shapeCast S1x4x8x128 (amAll m c) shapeCasts_S4x8x128_S1x4x8x128
        ((Shape.reshapeEquiv shapeCasts_S4x8x128_S1x4x8x128).symm (ix3 (n0 := 4) (n1 := 8) (n2 := 128) ⟨(c - o).val, ho4⟩ 0 0)) = am m o from by
      refine (congrArg (amAll m c) (Equiv.apply_symm_apply _ _)).trans ?_
      unfold amAll
      refine congrArg (am m) ?_
      exact sub_sub_dev c o] at this
    rw [← Yf_at H]
    exact ((am_le m o b).1 this).2 j h r l
  · intro A i
    show (am m _ : EReal) ≤ b
    refine (am_le m _ b).2 ⟨(mag_nonneg _).trans (A 0 0), fun j h r l => ?_⟩
    rw [Yf_at H]; exact A _ _

/-- The factor and the step. -/
theorem inv_eq (c : Dev nD) : (inv m c : EReal) = Ideal.div (Ideal.ofBits .f32 0x42FE0000#32) (k0_pay35 (amAll m c)) :=
  divf_eq (Ideal.ofBits .f32 0x42FE0000#32) (k0_pay35 (amAll m c))
theorem scl_eq (c : Dev nD) : (scl m c : EReal) = Ideal.div (k0_pay35 (amAll m c)) (Ideal.ofBits .f32 0x42FE0000#32) :=
  divf_eq (k0_pay35 (amAll m c)) (Ideal.ofBits .f32 0x42FE0000#32)

/-- A quantised entry, at the extended reals. -/
theorem quant_eq (i s v : EReal) : (quant (F := Ideal) i s v : EReal)
    = qd (Ideal.ofBits .f32 0xC2FE0000#32) (Ideal.ofBits .f32 0x42FE0000#32) s (v * i) := rfl

/-- Each entry of a device's result is the entry of the quantised product in its column block. -/
theorem outAt_eq (H : Parts m X W) (c : Dev nD) (i : S4096x512.Idx) : (outAt m c i : EReal) = quantised X W (i 0) (col c (i 1)) := by
  have hi : (i 0).val < 4096 := (i 0).isLt
  rw [outAt_entry]
  unfold entry
  refine (quant_eq _ _ _).trans ?_
  rw [show (Y m (Fin.ofNat 4 ((i 0).val / 1024)) (blkTo c (Fin.ofNat 4 ((i 0).val / 1024))) (Fin.ofNat 2 ((i 0).val / 512))
      (ix3 (n0 := 1) (n1 := 512) (n2 := 512) 0 (Fin.ofNat 512 (i 0).val) (i 1)) : EReal) = prod X W (i 0) (col c (i 1)) from by
    refine (Y_at H _ _ _ _ _).trans ?_
    rw [dest_blkTo]
    congr 1
    exact Fin.ext (by
      show 1024 * ((i 0).val / 1024 % 4) + 512 * ((i 0).val / 512 % 2) + (i 0).val % 512 = (i 0).val
      omega)]
  unfold quantised
  rw [inv_eq, scl_eq, max_eq H c, c127]
  exact qd_eq _ _ _ _ 127 (by norm_num) ((mx_le X W _).1 le_rfl _ _)

end Cert.Exchange

end
-- ==== Proof.Reference.lean ====
/-
# What the reference computes

The reference's result, entry by entry, is the quantised product.
-/
module

public import proofs.«01_k».proof.Proof.Equation
public import proofs.«01_k».proof.Proof.Gen.ReferenceIdeal.Run
public import Idealize.ShloMosaic.Lib.StackMember

@[expose] public section

noncomputable section

namespace Cert.Exchange

open Cert.ReferenceIdeal Cert.ReferenceIdeal.Gen
open Idealize.ShloMosaic
open Idealize.ShloMosaic.StableHlo

/-- The reference's product, its largest magnitude, its step and its result. -/
def refDot (X : FVec Ideal S4096x4096 .f32) (W : FVec Ideal S4096x2048 .f32) : FVec Ideal S4096x2048 .f32 :=
  Host.dotGeneral dot_S4096x4096_S4096x2048_S4096x2048_1_0_0_1_n_n none X W
def refMax (P : FVec Ideal S4096x2048 .f32) : FVec Ideal S_ .f32 :=
  Host.reduce FloatOps.maximumf (Host.absf P) (constant S_ .f32 0xFF800000#32) reducesTo_S4096x2048_S_d0_1 h_S_
def refStep (P : FVec Ideal S4096x2048 .f32) : FVec Ideal S4096x2048 .f32 :=
  broadcastInDim S4096x2048 ![] bcast_S_S4096x2048 (Host.divf (refMax P) (constant S_ .f32 0x42FE0000#32))
def refOut (X : FVec Ideal S4096x4096 .f32) (W : FVec Ideal S4096x2048 .f32) : FVec Ideal S4096x2048 .bf16 :=
  truncf .bf16 (mulf (minimumf (broadcastInDim S4096x2048 ![] bcast_S_S4096x2048 (id (constant S_ .f32 0x42FE0000#32)))
    (maximumf (broadcastInDim S4096x2048 ![] bcast_S_S4096x2048 (id (constant S_ .f32 0xC2FE0000#32)))
      (Host.roundeven (Host.divf (refDot X W) (refStep (refDot X W)))))) (refStep (refDot X W))) bitsLt_bf16_f32

/-- The product's entries. -/
theorem refDot_at (X : FVec Ideal S4096x4096 .f32) (W : FVec Ideal S4096x2048 .f32) (i : Fin 4096) (n : Fin 2048) :
    (refDot X W (ix2 (n0 := 4096) (n1 := 2048) i n) : EReal) = prod X W i n :=
  StackMember.dotGeneral_plain_apply (m := 4096) (k := 4096) (n := 2048) none X W i n

/-- The reference's maximum is bounded just when every magnitude is. -/
theorem refMax_le (P : FVec Ideal S4096x2048 .f32) (j : S_.Idx) (b : EReal) : (refMax P j : EReal) ≤ b ↔ ∀ i, mag (P i) ≤ b := by
  unfold refMax
  rw [Host.reduce_eq_fold]
  show (Finset.fold max (Ideal.ofBits .f32 0xFF800000#32) (Host.absf P) _ : EReal) ≤ b ↔ _
  rw [Finset.fold_max_le, cbot]
  constructor
  · intro H i
    exact H.2 i (Finset.mem_filter.2 ⟨Finset.mem_univ _, funext fun a => a.elim0⟩)
  · intro H
    exact ⟨bot_le, fun i _ => H i⟩

/-- It is the largest magnitude of the product. -/
theorem refMax_eq (X : FVec Ideal S4096x4096 .f32) (W : FVec Ideal S4096x2048 .f32) (j : S_.Idx) : (refMax (refDot X W) j : EReal) = mx X W := by
  refine eq_of_forall_ge_iff fun b => ?_
  rw [refMax_le, mx_le]
  constructor
  · intro H i n
    rw [← refDot_at]; exact H _
  · intro H i
    obtain ⟨a, b', rfl⟩ : ∃ (a : Fin 4096) (b' : Fin 2048), i = ix2 a b' := ⟨i 0, i 1, eq_ix2 i⟩
    rw [refDot_at]; exact H _ _

theorem refStep_at (P : FVec Ideal S4096x2048 .f32) (i : S4096x2048.Idx) :
    ∃ j, (refStep P i : EReal) = Ideal.div (refMax P j) (Ideal.ofBits .f32 0x42FE0000#32) := ⟨_, rfl⟩

/-- The result's entry from the product's and the step's. -/
theorem refOut_qd (X : FVec Ideal S4096x4096 .f32) (W : FVec Ideal S4096x2048 .f32) (i : S4096x2048.Idx) :
    (refOut X W i : EReal) = qd (Ideal.ofBits .f32 0xC2FE0000#32) (Ideal.ofBits .f32 0x42FE0000#32) (refStep (refDot X W) i)
      (Ideal.div (refDot X W i) (refStep (refDot X W) i)) := rfl

/-- The reference's result is the quantised product. -/
theorem refOut_at (X : FVec Ideal S4096x4096 .f32) (W : FVec Ideal S4096x2048 .f32) (i : Fin 4096) (n : Fin 2048) :
    (refOut X W (ix2 (n0 := 4096) (n1 := 2048) i n) : EReal) = quantised X W i n := by
  rw [refOut_qd]
  obtain ⟨j, hj⟩ := refStep_at (refDot X W) (ix2 (n0 := 4096) (n1 := 2048) i n)
  rw [hj, refMax_eq, refDot_at]
  rfl

/-- Each device's result is its block of columns of the reference's. -/
theorem outAt_block {m : (ℓ : Loc Cert.KernelIdeal.nD Cert.KernelIdeal.τ Cert.KernelIdeal.sig) → Buf (Elt Ideal) ℓ}
    {X : FVec Ideal S4096x4096 .f32} {W : FVec Ideal S4096x2048 .f32} (H : Parts m X W) (c : Dev Cert.KernelIdeal.nD) :
    outAt m c = Layout.block ⟨2, ![4096, 512]⟩ ⟨2, ![4096, 2048]⟩ 1 4 c (refOut X W) := by
  funext i
  refine ((outAt_eq H c i).trans (refOut_at X W (i 0) (col c (i 1))).symm).trans ?_
  refine congrArg (refOut X W) ?_
  funext a; apply Fin.ext
  match a with
  | ⟨0, _⟩ => rfl
  | ⟨1, _⟩ => show 512 * c.val + (i 1).val = c.val * 512 + (i 1).val; omega

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Reference
public import Idealize.ShloMosaic.Adequacy
public import Idealize.ShloMosaic.Init

@[expose] public section

noncomputable section

namespace Cert.Proof

attribute [local instance] Cert.Kernel.Gen.facts Cert.KernelIdeal.Gen.facts Cert.ReferenceIdeal.Gen.facts

open Idealize.ShloMosaic Idealize.SL.Sem

/-- The kernel terminates on every device, leaves its arguments as they were and every counter at zero, whatever the float values are. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => (h.1 c).2, h.2⟩) (Cert.Exchange.run_result (F := F) m ρ)

/-- The same for any family of kernel bodies equal to the printed one. -/
theorem frame_of {F : FTy → Type} [FloatOps F]
    (d : Defs Cert.KernelIdeal.nD Cert.KernelIdeal.τ Cert.KernelIdeal.sig (Elt F)
      (Pipeline.Sig Cert.KernelIdeal.Λ₀ (Fin 1) fun p => (Cert.KernelIdeal.pcfgs (F := F) p).Adm))
    (hd : d = Cert.KernelIdeal.defs (F := F)) (m : (ℓ : Loc Cert.KernelIdeal.nD Cert.KernelIdeal.τ Cert.KernelIdeal.sig) → Buf (Elt F) ℓ)
    (ρ : Dev Cert.KernelIdeal.nD → PrngReg) :
    θ_run d (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0) := by
  subst hd; exact frame m ρ

/-- The kernel as printed and the kernel printed for the extended reals have the same bodies. -/
theorem bodies_eq : (Cert.Kernel.defs₀ (F := Bits)) = Cert.KernelIdeal.defs₀ (F := Bits) := by
  unfold Cert.Kernel.defs₀ Cert.KernelIdeal.defs₀
  refine congrArg (Defs.onTc (nD := Cert.KernelIdeal.nD) (τ := Cert.KernelIdeal.τ) (sig := Cert.KernelIdeal.sig) (Val := Elt Bits)
    (Λ := Cert.KernelIdeal.Λ₀)) ?_
  funext l a
  match l, a with
  | 0, (t, s) => rfl

/-- So they have the same bodies with their pipelines. -/
theorem defs_eq : (Cert.Kernel.defs (F := Bits)) = Cert.KernelIdeal.defs (F := Bits) :=
  congrArg (Pipeline.defs (Cert.KernelIdeal.pcfgs (F := Bits))) bodies_eq

/-- At the bit patterns the kernel terminates, leaves its arguments as they were and ends with every counter at zero. -/
theorem frame_kernel : Cert.quiescent_Kernel (hKernel := Cert.Kernel.Gen.facts) := fun m ρ _ =>
  frame_of (F := Bits) (Cert.Kernel.defs (F := Bits)) defs_eq m ρ

/-- At the extended reals too. -/
theorem frame_kernelIdeal : Cert.quiescent_KernelIdeal (hKernelIdeal := Cert.KernelIdeal.Gen.facts) := fun m ρ _ => frame (F := Ideal) m ρ

/-- So does the reference. -/
theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- From arguments that are the parts of the reference's, every run of the kernel ends with each device holding its block of columns
of the array every run of the reference ends with. -/
theorem value : Cert.algebraic_KernelIdeal_ReferenceIdeal (hKernelIdeal := Cert.KernelIdeal.Gen.facts)
    (hReferenceIdeal := Cert.ReferenceIdeal.Gen.facts) := fun m ρ m' ρ' _ H =>
  ⟨Cert.Exchange.refOut
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).1.trans (Cert.Exchange.outAt_block H c), (h.1 c).2⟩)
      (Cert.Exchange.run_result (F := Ideal) m ρ),
    (θ_run Cert.ReferenceIdeal.defs _ _).mono (fun _ h => h 0) (Cert.ReferenceIdeal.Value.run (F := Ideal) m' ρ')⟩

/-- Everything this certificate claims. -/
theorem claim : Cert.Claim := ⟨Cert.Kernel.Gen.facts, Cert.KernelIdeal.Gen.facts, Cert.ReferenceIdeal.Gen.facts,
  frame_kernel, frame_kernelIdeal, frame_reference, trivial, value⟩

end Cert.Proof

end
